-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58_0) = v0 c
          ∧ r.2.mem ((c.tc : Thread Cert.ReferenceIdeal.nD Cert.ReferenceIdeal.τ).loc Cert.ReferenceIdeal.main_v58_1) = v1 c
          ∧ r.2.mem ((c.tc : Thread Cert.ReferenceIdeal.nD Cert.ReferenceIdeal.τ).loc Cert.ReferenceIdeal.main_v58_2) = v2 c
          ∧ r.2.mem ((c.tc : Thread Cert.ReferenceIdeal.nD Cert.ReferenceIdeal.τ).loc Cert.ReferenceIdeal.main_v58_3) = v3 c
          ∧ r.2.mem ((c.tc : Thread Cert.ReferenceIdeal.nD Cert.ReferenceIdeal.τ).loc Cert.ReferenceIdeal.main_v58_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v0) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
-- ==== Pre_finite.lean ====
abbrev S2x3072x2560 : Shape := ⟨3, ![2, 3072, 2560]⟩
abbrev S2x3072 : Shape := ⟨2, ![2, 3072]⟩
abbrev S640x16384 : Shape := ⟨2, ![640, 16384]⟩
abbrev S_ : Shape := ⟨0, ![]⟩
abbrev S2x3072x16384 : Shape := ⟨3, ![2, 3072, 16384]⟩

class Facts : Prop where
  bitsLt_bf16_f32 : FTy.bits .bf16 < FTy.bits .f32
  bcast_S_S2x3072x16384 : S_.BroadcastsInDim S2x3072x16384 (![] : Fin 0 → Fin S2x3072x16384.rank)

variable [Facts]

def fn {F : FTy → Type} [FloatOps F] (main_arg0 : IVec S2x3072x2560 8) (main_arg1 : FVec F S2x3072 .f32) (main_arg2 : IVec S640x16384 8) (main_arg3 : FVec F S_ .f32) (main_arg4 : FVec F S2x3072x16384 .bf16) : IVec S2x3072x16384 1 :=
  let main_v0 : FVec F S2x3072x16384 .f32 := (extf .f32 · bitsLt_bf16_f32) main_arg4
  let main_v1 : FVec F S2x3072x16384 .f32 := Host.absf main_v0
  let main_cst : FVec F S_ .f32 := constant S_ .f32 0x7F7F0000#32
  let main_v2 : FVec F S2x3072x16384 .f32 := broadcastInDim S2x3072x16384 ![] bcast_S_S2x3072x16384 main_cst
  let main_v3 : IVec S2x3072x16384 1 := cmpf .ole main_v1 main_v2
  main_v3
-- ==== Kernel.lean ====
abbrev S2x3072x2560 : Shape := ⟨3, ![2, 3072, 2560]⟩
abbrev S2x3072 : Shape := ⟨2, ![2, 3072]⟩
abbrev S640x16384 : Shape := ⟨2, ![640, 16384]⟩
abbrev S_ : Shape := ⟨0, ![]⟩
abbrev S2x3072x16384 : Shape := ⟨3, ![2, 3072, 16384]⟩
abbrev S1 : Shape := ⟨1, ![1]⟩
abbrev S6144x16384 : Shape := ⟨2, ![6144, 16384]⟩
abbrev S6144x2560 : Shape := ⟨2, ![6144, 2560]⟩
abbrev S6144x1 : Shape := ⟨2, ![6144, 1]⟩
abbrev S6144x128 : Shape := ⟨2, ![6144, 128]⟩
abbrev S2560x6144 : Shape := ⟨2, ![2560, 6144]⟩
abbrev S1024x1024 : Shape := ⟨2, ![1024, 1024]⟩
abbrev S640x1024 : Shape := ⟨2, ![640, 1024]⟩
abbrev S1024x2560 : Shape := ⟨2, ![1024, 2560]⟩
abbrev S1024x1 : Shape := ⟨2, ![1024, 1]⟩
abbrev S1024x128 : Shape := ⟨2, ![1024, 128]⟩
abbrev S2560x1024 : Shape := ⟨2, ![2560, 1024]⟩
abbrev S1024 : Shape := ⟨1, ![1024]⟩

abbrev nBuf : Space → Nat
  | .hbm => 14
  | .vmem => 19
  | .smem => 1
  | _ => 0

abbrev bufTy : (tb : Table) → Fin (tcTables nBuf tb) → BufTy
  | .hbm, ⟨0, _⟩ => ⟨S2x3072x2560, .i8⟩
  | .hbm, ⟨1, _⟩ => ⟨S2x3072, .f32⟩
  | .hbm, ⟨2, _⟩ => ⟨S640x16384, .i8⟩
  | .hbm, ⟨3, _⟩ => ⟨S_, .f32⟩
  | .hbm, ⟨4, _⟩ => ⟨S2x3072x16384, .bf16⟩
  | .hbm, ⟨5, _⟩ => ⟨S1, .f32⟩
  | .hbm, ⟨6, _⟩ => ⟨S6144x16384, .bf16⟩
  | .hbm, ⟨7, _⟩ => ⟨S6144x2560, .i8⟩
  | .hbm, ⟨8, _⟩ => ⟨S6144x1, .f32⟩
  | .hbm, ⟨9, _⟩ => ⟨S6144x2560, .bf16⟩
  | .hbm, ⟨10, _⟩ => ⟨S6144x16384, .fp8e5m2⟩
  | .hbm, ⟨11, _⟩ => ⟨S6144x128, .f32⟩
  | .hbm, ⟨12, _⟩ => ⟨S6144x16384, .bf16⟩
  | .hbm, ⟨13, _⟩ => ⟨S2560x6144, .bf16⟩
  | .local _ .vmem, ⟨0, _⟩ => ⟨S1024x1024, .bf16⟩
  | .local _ .vmem, ⟨1, _⟩ => ⟨S1024x1024, .bf16⟩
  | .local _ .vmem, ⟨2, _⟩ => ⟨S640x1024, .i8⟩
  | .local _ .vmem, ⟨3, _⟩ => ⟨S640x1024, .i8⟩
  | .local _ .vmem, ⟨4, _⟩ => ⟨S1024x2560, .i8⟩
  | .local _ .vmem, ⟨5, _⟩ => ⟨S1024x2560, .i8⟩
  | .local _ .vmem, ⟨6, _⟩ => ⟨S1024x1, .f32⟩
  | .local _ .vmem, ⟨7, _⟩ => ⟨S1024x1, .f32⟩
  | .local _ .vmem, ⟨8, _⟩ => ⟨S1024x2560, .bf16⟩
  | .local _ .vmem, ⟨9, _⟩ => ⟨S1024x2560, .bf16⟩
  | .local _ .vmem, ⟨10, _⟩ => ⟨S1024x1024, .fp8e5m2⟩
  | .local _ .vmem, ⟨11, _⟩ => ⟨S1024x1024, .fp8e5m2⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S2560x1024, .bf16⟩
  | .local _ .vmem, ⟨17, _⟩ => ⟨S2560x1024, .bf16⟩
  | .local _ .vmem, ⟨18, _⟩ => ⟨S1024x2560, .f32⟩
  | .local _ .smem, ⟨0, _⟩ => ⟨S1, .f32⟩
  | _, _ => ⟨S2x3072x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 16], ![false, false]⟩

def k0_cond2 (i : grid0.Coords) : BitVec 1 :=
  let arg1 : BitVec 32 := BitVec.ofNat 32 (i 1).val
  let c15_i32 : BitVec 32 := 15#32
  let v716 : BitVec 1 := Scalar.cmpi .eq arg1 c15_i32
  let v717 : BitVec 32 := Scalar.extui v716
  let c0_i32_202 : BitVec 32 := 0#32
  let v718 : BitVec 1 := Scalar.cmpi .ne v717 c0_i32_202
  v718

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2560x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x3072x2560 : Shape := ⟨3, ![2, 3072, 2560]⟩
abbrev S2x3072 : Shape := ⟨2, ![2, 3072]⟩
abbrev S640x16384 : Shape := ⟨2, ![640, 16384]⟩
abbrev S_ : Shape := ⟨0, ![]⟩
abbrev S2x3072x16384 : Shape := ⟨3, ![2, 3072, 16384]⟩
abbrev S640x1x16384 : Shape := ⟨3, ![640, 1, 16384]⟩
abbrev S640x4x16384 : Shape := ⟨3, ![640, 4, 16384]⟩
abbrev S1x1 : Shape := ⟨2, ![1, 1]⟩
abbrev S6144x16384 : Shape := ⟨2, ![6144, 16384]⟩
abbrev S2560x16384 : Shape := ⟨2, ![2560, 16384]⟩
abbrev S6144x2560 : Shape := ⟨2, ![6144, 2560]⟩
abbrev S6144x1 : Shape := ⟨2, ![6144, 1]⟩
abbrev S6144x128 : Shape := ⟨2, ![6144, 128]⟩
abbrev S2560x6144 : Shape := ⟨2, ![2560, 6144]⟩
abbrev S6144x128x128 : Shape := ⟨3, ![6144, 128, 128]⟩
abbrev S6144x128x1 : Shape := ⟨3, ![6144, 128, 1]⟩

abbrev nBuf : Space → Nat
  | .hbm => 108
  | .vmem => 10
  | .smem => 0
  | _ => 0

abbrev bufTy : (tb : Table) → Fin (tcTables nBuf tb) → BufTy
  | .hbm, ⟨0, _⟩ => ⟨S2x3072x2560, .i8⟩
  | .hbm, ⟨1, _⟩ => ⟨S2x3072, .f32⟩
  | .hbm, ⟨2, _⟩ => ⟨S640x16384, .i8⟩
  | .hbm, ⟨3, _⟩ => ⟨S_, .f32⟩
  | .hbm, ⟨4, _⟩ => ⟨S2x3072x16384, .bf16⟩
  | .hbm, ⟨5, _⟩ => ⟨S640x16384, .i32⟩
  | .hbm, ⟨6, _⟩ => ⟨S_, .i32⟩
  | .hbm, ⟨7, _⟩ => ⟨S640x16384, .i32⟩
  | .hbm, ⟨8, _⟩ => ⟨S640x16384, .i32⟩
  | .hbm, ⟨9, _⟩ => ⟨S_, .i32⟩
  | .hbm, ⟨10, _⟩ => ⟨S640x16384, .i32⟩
  | .hbm, ⟨11, _⟩ => ⟨S640x16384, .i32⟩
  | .hbm, ⟨12, _⟩ => ⟨S640x16384, .i32⟩
  | .hbm, ⟨13, _⟩ => ⟨S_, .i32⟩
  | .hbm, ⟨14, _⟩ => ⟨S640x16384, .i32⟩
  | .hbm, ⟨15, _⟩ => ⟨S640x16384, .i32⟩
  | .hbm, ⟨16, _⟩ => ⟨S_, .i32⟩
  | .hbm, ⟨17, _⟩ => ⟨S640x16384, .i32⟩
  | .hbm, ⟨18, _⟩ => ⟨S640x16384, .i32⟩
  | .hbm, ⟨19, _⟩ => ⟨S640x16384, .i32⟩
  | .hbm, ⟨20, _⟩ => ⟨S_, .i32⟩
  | .hbm, ⟨21, _⟩ => ⟨S640x16384, .i32⟩
  | .hbm, ⟨22, _⟩ => ⟨S640x16384, .i32⟩
  | .hbm, ⟨23, _⟩ => ⟨S_, .i32⟩
  | .hbm, ⟨24, _⟩ => ⟨S640x16384, .i32⟩
  | .hbm, ⟨25, _⟩ => ⟨S640x16384, .i32⟩
  | .hbm, ⟨26, _⟩ => ⟨S640x16384, .i32⟩
  | .hbm, ⟨27, _⟩ => ⟨S_, .i32⟩
  | .hbm, ⟨28, _⟩ => ⟨S640x16384, .i32⟩
  | .hbm, ⟨29, _⟩ => ⟨S640x16384, .i32⟩
  | .hbm, ⟨30, _⟩ => ⟨S_, .i32⟩
  | .hbm, ⟨31, _⟩ => ⟨S640x16384, .i32⟩
  | .hbm, ⟨32, _⟩ => ⟨S640x16384, .i32⟩
  | .hbm, ⟨33, _⟩ => ⟨S_, .i32⟩
  | .hbm, ⟨34, _⟩ => ⟨S640x16384, .i32⟩
  | .hbm, ⟨35, _⟩ => ⟨S640x16384, .i1⟩
  | .hbm, ⟨36, _⟩ => ⟨S_, .i32⟩
  | .hbm, ⟨37, _⟩ => ⟨S640x16384, .i32⟩
  | .hbm, ⟨38, _⟩ => ⟨S640x16384, .i1⟩
  | .hbm, ⟨39, _⟩ => ⟨S_, .f32⟩
  | .hbm, ⟨40, _⟩ => ⟨S_, .f32⟩
  | .hbm, ⟨41, _⟩ => ⟨S640x16384, .f32⟩
  | .hbm, ⟨42, _⟩ => ⟨S640x16384, .f32⟩
  | .hbm, ⟨43, _⟩ => ⟨S640x16384, .f32⟩
  | .hbm, ⟨44, _⟩ => ⟨S_, .f32⟩
  | .hbm, ⟨45, _⟩ => ⟨S640x16384, .f32⟩
  | .hbm, ⟨46, _⟩ => ⟨S640x16384, .f32⟩
  | .hbm, ⟨47, _⟩ => ⟨S640x16384, .bf16⟩
  | .hbm, ⟨48, _⟩ => ⟨S_, .i32⟩
  | .hbm, ⟨49, _⟩ => ⟨S640x16384, .i32⟩
  | .hbm, ⟨50, _⟩ => ⟨S640x16384, .i1⟩
  | .hbm, ⟨51, _⟩ => ⟨S_, .i32⟩
  | .hbm, ⟨52, _⟩ => ⟨S640x16384, .i32⟩
  | .hbm, ⟨53, _⟩ => ⟨S640x16384, .i1⟩
  | .hbm, ⟨54, _⟩ => ⟨S_, .f32⟩
  | .hbm, ⟨55, _⟩ => ⟨S_, .f32⟩
  | .hbm, ⟨56, _⟩ => ⟨S640x16384, .f32⟩
  | .hbm, ⟨57, _⟩ => ⟨S640x16384, .f32⟩
  | .hbm, ⟨58, _⟩ => ⟨S640x16384, .f32⟩
  | .hbm, ⟨59, _⟩ => ⟨S_, .f32⟩
  | .hbm, ⟨60, _⟩ => ⟨S640x16384, .f32⟩
  | .hbm, ⟨61, _⟩ => ⟨S640x16384, .f32⟩
  | .hbm, ⟨62, _⟩ => ⟨S640x16384, .bf16⟩
  | .hbm, ⟨63, _⟩ => ⟨S_, .i32⟩
  | .hbm, ⟨64, _⟩ => ⟨S640x16384, .i32⟩
  | .hbm, ⟨65, _⟩ => ⟨S640x16384, .i1⟩
  | .hbm, ⟨66, _⟩ => ⟨S_, .i32⟩
  | .hbm, ⟨67, _⟩ => ⟨S640x16384, .i32⟩
  | .hbm, ⟨68, _⟩ => ⟨S640x16384, .i1⟩
  | .hbm, ⟨69, _⟩ => ⟨S_, .f32⟩
  | .hbm, ⟨70, _⟩ => ⟨S_, .f32⟩
  | .hbm, ⟨71, _⟩ => ⟨S640x16384, .f32⟩
  | .hbm, ⟨72, _⟩ => ⟨S640x16384, .f32⟩
  | .hbm, ⟨73, _⟩ => ⟨S640x16384, .f32⟩
  | .hbm, ⟨74, _⟩ => ⟨S_, .f32⟩
  | .hbm, ⟨75, _⟩ => ⟨S640x16384, .f32⟩
  | .hbm, ⟨76, _⟩ => ⟨S640x16384, .f32⟩
  | .hbm, ⟨77, _⟩ => ⟨S640x16384, .bf16⟩
  | .hbm, ⟨78, _⟩ => ⟨S_, .i32⟩
  | .hbm, ⟨79, _⟩ => ⟨S640x16384, .i32⟩
  | .hbm, ⟨80, _⟩ => ⟨S640x16384, .i1⟩
  | .hbm, ⟨81, _⟩ => ⟨S_, .i32⟩
  | .hbm, ⟨82, _⟩ => ⟨S640x16384, .i32⟩
  | .hbm, ⟨83, _⟩ => ⟨S640x16384, .i1⟩
  | .hbm, ⟨84, _⟩ => ⟨S_, .f32⟩
  | .hbm, ⟨85, _⟩ => ⟨S_, .f32⟩
  | .hbm, ⟨86, _⟩ => ⟨S640x16384, .f32⟩
  | .hbm, ⟨87, _⟩ => ⟨S640x16384, .f32⟩
  | .hbm, ⟨88, _⟩ => ⟨S640x16384, .f32⟩
  | .hbm, ⟨89, _⟩ => ⟨S_, .f32⟩
  | .hbm, ⟨90, _⟩ => ⟨S640x16384, .f32⟩
  | .hbm, ⟨91, _⟩ => ⟨S640x16384, .f32⟩
  | .hbm, ⟨92, _⟩ => ⟨S640x16384, .bf16⟩
  | .hbm, ⟨93, _⟩ => ⟨S640x1x16384, .bf16⟩
  | .hbm, ⟨94, _⟩ => ⟨S640x1x16384, .bf16⟩
  | .hbm, ⟨95, _⟩ => ⟨S640x1x16384, .bf16⟩
  | .hbm, ⟨96, _⟩ => ⟨S640x1x16384, .bf16⟩
  | .hbm, ⟨97, _⟩ => ⟨S640x4x16384, .bf16⟩
  | .hbm, ⟨98, _⟩ => ⟨S1x1, .f32⟩
  | .hbm, ⟨99, _⟩ => ⟨S6144x16384, .bf16⟩
  | .hbm, ⟨100, _⟩ => ⟨S2560x16384, .bf16⟩
  | .hbm, ⟨101, _⟩ => ⟨S6144x2560, .i8⟩
  | .hbm, ⟨102, _⟩ => ⟨S6144x1, .f32⟩
  | .hbm, ⟨103, _⟩ => ⟨S6144x2560, .bf16⟩
  | .hbm, ⟨104, _⟩ => ⟨S6144x16384, .fp8e5m2⟩
  | .hbm, ⟨105, _⟩ => ⟨S6144x128, .f32⟩
  | .hbm, ⟨106, _⟩ => ⟨S6144x16384, .bf16⟩
  | .hbm, ⟨107, _⟩ => ⟨S2560x6144, .bf16⟩
  | .local _ .vmem, ⟨0, _⟩ => ⟨S1x1, .f32⟩
  | .local _ .vmem, ⟨1, _⟩ => ⟨S6144x16384, .bf16⟩
  | .local _ .vmem, ⟨2, _⟩ => ⟨S2560x16384, .bf16⟩
  | .local _ .vmem, ⟨3, _⟩ => ⟨S6144x2560, .i8⟩
  | .local _ .vmem, ⟨4, _⟩ => ⟨S6144x1, .f32⟩
  | .local _ .vmem, ⟨5, _⟩ => ⟨S6144x2560, .bf16⟩
  | .local _ .vmem, ⟨6, _⟩ => ⟨S6144x16384, .fp8e5m2⟩
  | .local _ .vmem, ⟨7, _⟩ => ⟨S6144x128, .f32⟩
  | .local _ .vmem, ⟨8, _⟩ => ⟨S6144x16384, .bf16⟩
  | .local _ .vmem, ⟨9, _⟩ => ⟨S2560x6144, .bf16⟩
  | _, _ => ⟨S2x3072x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_v24 : Ref sig .tc := ⟨.hbm, 43, rfl⟩
abbrev main_cst_10 : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_c_11 : Ref sig .tc := ⟨.hbm, 48, rfl⟩
abbrev main_v27 : Ref sig .tc := ⟨.hbm, 49, rfl⟩
abbrev main_v28 : Ref sig .tc := ⟨.hbm, 50, rfl⟩
abbrev main_c_12 : Ref sig .tc := ⟨.hbm, 51, rfl⟩
abbrev main_v29 : Ref sig .tc := ⟨.hbm, 52, rfl⟩
abbrev main_v30 : Ref sig .tc := ⟨.hbm, 53, rfl⟩
abbrev main_cst_13 : Ref sig .tc := ⟨.hbm, 54, rfl⟩
abbrev main_cst_14 : Ref sig .tc := ⟨.hbm, 55, rfl⟩
abbrev main_call2_v0 : Ref sig .tc := ⟨.hbm, 56, rfl⟩
abbrev main_call2_v1 : Ref sig .tc := ⟨.hbm, 57, rfl⟩
abbrev main_v31 : Ref sig .tc := ⟨.hbm, 58, rfl⟩
abbrev main_cst_15 : Ref sig .tc := ⟨.hbm, 59, rfl⟩
abbrev main_call3_v0 : Ref sig .tc := ⟨.hbm, 60, rfl⟩
abbrev main_v32 : Ref sig .tc := ⟨.hbm, 61, rfl⟩
abbrev main_v33 : Ref sig .tc := ⟨.hbm, 62, rfl⟩
abbrev main_c_16 : Ref sig .tc := ⟨.hbm, 63, rfl⟩
abbrev main_v34 : Ref sig .tc := ⟨.hbm, 64, rfl⟩
abbrev main_v35 : Ref sig .tc := ⟨.hbm, 65, rfl⟩
abbrev main_c_17 : Ref sig .tc := ⟨.hbm, 66, rfl⟩
abbrev main_v36 : Ref sig .tc := ⟨.hbm, 67, rfl⟩
abbrev main_v37 : Ref sig .tc := ⟨.hbm, 68, rfl⟩
abbrev main_cst_18 : Ref sig .tc := ⟨.hbm, 69, rfl⟩
abbrev main_cst_19 : Ref sig .tc := ⟨.hbm, 70, rfl⟩
abbrev main_call4_v0 : Ref sig .tc := ⟨.hbm, 71, rfl⟩
abbrev main_call4_v1 : Ref sig .tc := ⟨.hbm, 72, rfl⟩
abbrev main_v38 : Ref sig .tc := ⟨.hbm, 73, rfl⟩
abbrev main_cst_20 : Ref sig .tc := ⟨.hbm, 74, rfl⟩
abbrev main_call5_v0 : Ref sig .tc := ⟨.hbm, 75, rfl⟩
abbrev main_v39 : Ref sig .tc := ⟨.hbm, 76, rfl⟩
abbrev main_v40 : Ref sig .tc := ⟨.hbm, 77, rfl⟩
abbrev main_c_21 : Ref sig .tc := ⟨.hbm, 78, rfl⟩
abbrev main_v41 : Ref sig .tc := ⟨.hbm, 79, rfl⟩
abbrev main_v42 : Ref sig .tc := ⟨.hbm, 80, rfl⟩
abbrev main_c_22 : Ref sig .tc := ⟨.hbm, 81, rfl⟩
abbrev main_v43 : Ref sig .tc := ⟨.hbm, 82, rfl⟩
abbrev main_v44 : Ref sig .tc := ⟨.hbm, 83, rfl⟩
abbrev main_cst_23 : Ref sig .tc := ⟨.hbm, 84, rfl⟩
abbrev main_cst_24 : Ref sig .tc := ⟨.hbm, 85, rfl⟩
abbrev main_call6_v0 : Ref sig .tc := ⟨.hbm, 86, rfl⟩
abbrev main_call6_v1 : Ref sig .tc := ⟨.hbm, 87, rfl⟩
abbrev main_v45 : Ref sig .tc := ⟨.hbm, 88, rfl⟩
abbrev main_cst_25 : Ref sig .tc := ⟨.hbm, 89, rfl⟩
abbrev main_call7_v0 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58_0 : Ref sig .tc := ⟨.hbm, 103, rfl⟩
abbrev main_v58_1 : Ref sig .tc := ⟨.hbm, 104, rfl⟩
abbrev main_v58_2 : Ref sig .tc := ⟨.hbm, 105, rfl⟩
abbrev main_v58_3 : Ref sig .tc := ⟨.hbm, 106, rfl⟩
abbrev main_v58_4 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x16384 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x16384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelDw.lean ====
abbrev S2560x6144 : Shape := ⟨2, ![2560, 6144]⟩
abbrev S6144x16384 : Shape := ⟨2, ![6144, 16384]⟩
abbrev S2560x16384 : Shape := ⟨2, ![2560, 16384]⟩
abbrev S6144x512 : Shape := ⟨2, ![6144, 512]⟩
abbrev S2560x512 : Shape := ⟨2, ![2560, 512]⟩

abbrev nBuf : Space → Nat
  | .hbm => 3
  | .vmem => 5
  | .smem => 0
  | _ => 0

abbrev bufTy : (tb : Table) → Fin (tcTables nBuf tb) → BufTy
  | .hbm, ⟨0, _⟩ => ⟨S2560x6144, .bf16⟩
  | .hbm, ⟨1, _⟩ => ⟨S6144x16384, .bf16⟩
  | .hbm, ⟨2, _⟩ => ⟨S2560x16384, .f32⟩
  | .local _ .vmem, ⟨0, _⟩ => ⟨S2560x6144, .bf16⟩
  | .local _ .vmem, ⟨1, _⟩ => ⟨S6144x512, .bf16⟩
  | .local _ .vmem, ⟨2, _⟩ => ⟨S6144x512, .bf16⟩
  | .local _ .vmem, ⟨3, _⟩ => ⟨S2560x512, .f32⟩
  | .local _ .vmem, ⟨4, _⟩ => ⟨S2560x512, .f32⟩
  | _, _ => ⟨S2560x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2560x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwIdeal.lean ====
abbrev S2560x6144 : Shape := ⟨2, ![2560, 6144]⟩
abbrev S6144x16384 : Shape := ⟨2, ![6144, 16384]⟩
abbrev S2560x16384 : Shape := ⟨2, ![2560, 16384]⟩

abbrev nBuf : Space → Nat
  | .hbm => 3
  | .vmem => 0
  | .smem => 0
  | _ => 0

abbrev bufTy : (tb : Table) → Fin (tcTables nBuf tb) → BufTy
  | .hbm, ⟨0, _⟩ => ⟨S2560x6144, .bf16⟩
  | .hbm, ⟨1, _⟩ => ⟨S6144x16384, .bf16⟩
  | .hbm, ⟨2, _⟩ => ⟨S2560x16384, .f32⟩
  | _, _ => ⟨S2560x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KxRuns.lean ====
/- What the runs of the first call's body share: its branch conditions in closed form over the grid points, where its
   windows are idle, its staging buffers and its scratch. Laid out as the library's generated frames are. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Dx

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 idle: the case stores nothing into it. -/
theorem idleAt0_9_C : ∀ t : Fin cfg0.N, ¬cond0_0 (grid0.coords t) → cond0_1 (grid0.coords t) → cfg0.idle 9 (grid0.coords t) = true := by decide +kernel

/-! ## The kernel body on any staging memrefs: a subtype the run finds -/

/-- One staging buffer of output window 5, through which its contents are stated (`View.read_writes_of_cover`: the
    choice does not matter). -/
abbrev VO0_5 : View sig .tc .vmem S1024x2560 .bf16 := (Memref.whole cc0_stg5_0 : Memref sig .tc .vmem S1024x2560 .bf16).view
/-- One staging buffer of output window 6, through which its contents are stated (`View.read_writes_of_cover`: the
    choice does not matter). -/
abbrev VO0_6 : View sig .tc .vmem S1024x1024 .fp8e5m2 := (Memref.whole cc0_stg6_0 : Memref sig .tc .vmem S1024x1024 .fp8e5m2).view
/-- One staging buffer of output window 7, through which its contents are stated (`View.read_writes_of_cover`: the
    choice does not matter). -/
abbrev VO0_7 : View sig .tc .vmem S1024x128 .f32 := (Memref.whole cc0_stg7_0 : Memref sig .tc .vmem S1024x128 .f32).view
/-- One staging buffer of output window 8, through which its contents are stated (`View.read_writes_of_cover`: the
    choice does not matter). -/
abbrev VO0_8 : View sig .tc .vmem S1024x1024 .bf16 := (Memref.whole cc0_stg8_0 : Memref sig .tc .vmem S1024x1024 .bf16).view
/-- One staging buffer of output window 9, through which its contents are stated (`View.read_writes_of_cover`: the
    choice does not matter). -/
abbrev VO0_9 : View sig .tc .vmem S2560x1024 .bf16 := (Memref.whole cc0_stg9_0 : Memref sig .tc .vmem S2560x1024 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2560x1024 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x2560 .f32 := Memref.whole cc0_scratch0
/-- The scratch `arg12` the kernel carries between points, as a view: what it holds is stated through it. -/
abbrev VS0_0 : View sig .tc .vmem S1024x2560 .f32 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Dx

end
-- ==== Proof.KxRunA.lean ====
/- The body of the first call run at the points that begin a tile of rows (chunk 0): what each buffer ends with. -/
module

public import proofs.«01_k».proof.Proof.KxRuns

@[expose] public section

-- membership in a rectangle of production extents (`View.cover_of_tiled`): the elaborator's structural look
-- recurses once per coordinate of the long axes
set_option maxRecDepth 16384

noncomputable section

namespace Cert.Kernel.Dx

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, 32, 48, 64, 80), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi5 : Vec F S1024x2560 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨[], ?_, ?_, ?_, ?_, ?_, fun xi5 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.Kernel.Dx

end
-- ==== Proof.KxRunB.lean ====
/- The body of the first call run at the middle points of a tile of rows: what each buffer ends with. -/
module

public import proofs.«01_k».proof.Proof.KxRunA

@[expose] public section

-- membership in a rectangle of production extents (`View.cover_of_tiled`): the elaborator's structural look
-- recurses once per coordinate of the long axes
set_option maxRecDepth 16384

noncomputable section

namespace Cert.Kernel.Dx

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 94: 84 of 96), WITH the
    proof that on whole staging memrefs — the inputs' at their contents, the outputs it reads before covering (7) at their running contents `xo·`, the outputs it leaves idle (5, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi5 : Vec F S1024x2560 .bf16) (xi9 : Vec F S2560x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xo7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨[], ?_, ?_, ?_, [], ?_, fun xi5 xi9 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]
    · iexists _; isplitr; · ipureintro; exact harg11.read_unread _
      iexact H9
    iexists _; iexact HS0

end Cert.Kernel.Dx

end
-- ==== Proof.KxRunC.lean ====
/- The body of the first call run at the points that end a tile of rows (chunk 15): what each buffer ends with. -/
module

public import proofs.«01_k».proof.Proof.KxRunB

@[expose] public section

-- membership in a rectangle of production extents (`View.cover_of_tiled`): the elaborator's structural look
-- recurses once per coordinate of the long axes
set_option maxRecDepth 16384

noncomputable section

namespace Cert.Kernel.Dx

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, 47, 63, 79, 95), WITH the
    proof that on whole staging memrefs — the inputs' at their contents, the outputs it reads before covering (7) at their running contents `xo·`, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi9 : Vec F S2560x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨?_, ?_, ?_, ?_, [], ?_, fun xi9 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg11.read_unread _
      iexact H9
    iexists _; iexact HS0

end Cert.Kernel.Dx

end
-- ==== Proof.KxFrame.lean ====
/- The frame of the first call. Output 9 (the transposed activations) is stored at a tile's first point and written
   back at its last one, which stores nothing into it: so what its buffer holds is carried from point to point
   (`outsAt0`'s component for it at a point that stores nothing is the point before's, and `before0_9` says that the
   body finds just that), and what the last point writes back is what the first one stored. -/
module

public import proofs.«01_k».proof.Proof.KxRunC
public import Idealize.ShloMosaic.Lib.Claim

@[expose] public section

-- membership in a rectangle of production extents (`View.cover_of_tiled`): the elaborator's structural look
-- recurses once per coordinate of the long axes
set_option maxRecDepth 16384

noncomputable section

namespace Cert.Kernel.Dx

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x2560 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

/-- Case A's pieces for output 6 tile its block (8 stores of `S1024x128`, checked by the kernel's evaluation: Lib/Ring.lean `Piece.tiledL`, linear in the pieces, through a loop's `@[irreducible]` trip theorem too), so they cover it. -/
theorem cover0_A_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1024x128.size (by sl_kernel_rfl) y

/-- What case A leaves in output 6's staging buffer: its pieces read back over junk. -/
def out0_A_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x1024 .fp8e5m2 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

/-- Case A's pieces for output 7 tile its block (2 stores of `S1024x128`, checked by the kernel's evaluation: Lib/Ring.lean `Piece.tiledL`, linear in the pieces, through a loop's `@[irreducible]` trip theorem too), so they cover it. -/
theorem cover0_A_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1024x128.size (by sl_kernel_rfl) y

/-- What case A leaves in output 7's staging buffer: its pieces read back over junk. -/
def out0_A_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- Case A's pieces for output 8 tile its block (8 stores of `S1024x128`, checked by the kernel's evaluation: Lib/Ring.lean `Piece.tiledL`, linear in the pieces, through a loop's `@[irreducible]` trip theorem too), so they cover it. -/
theorem cover0_A_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1 S1024x128.size (by sl_kernel_rfl) y

/-- What case A leaves in output 8's staging buffer: its pieces read back over junk. -/
def out0_A_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- Case A's pieces for output 9 tile its block (1 store of `S2560x1024`, checked by the kernel's evaluation: Lib/Ring.lean `Piece.tiledL`, linear in the pieces, through a loop's `@[irreducible]` trip theorem too), so they cover it. -/
theorem cover0_A_9 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S2560x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S2560x1024.size (by sl_kernel_rfl) y

/-- What case A leaves in output 9's staging buffer: its pieces read back over junk. -/
def out0_A_9 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S2560x1024 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- Case A's pieces for scratch `arg12`, which the kernel carries between points, cover it: 2 pieces of `S1024x2560` tiling it (Lib/Ring.lean `Piece.tiledL`). -/
theorem scover0_A_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x2560.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1 S1024x2560.size (by sl_kernel_rfl) y

/-- What case A leaves in scratch `arg12`: its pieces read back over junk. -/
def sout0_A_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x2560 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).1)

/-- Case B's pieces for output 6 tile its block (8 stores of `S1024x128`, checked by the kernel's evaluation: Lib/Ring.lean `Piece.tiledL`, linear in the pieces, through a loop's `@[irreducible]` trip theorem too), so they cover it. -/
theorem cover0_B_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1 S1024x128.size (by sl_kernel_rfl) y

/-- What case B leaves in output 6's staging buffer: its pieces read back over junk. -/
def out0_B_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .fp8e5m2 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1)

/-- Case B's pieces for output 7 tile its block (1 store of `S1024x128`, checked by the kernel's evaluation: Lib/Ring.lean `Piece.tiledL`, linear in the pieces, through a loop's `@[irreducible]` trip theorem too), so they cover it. -/
theorem cover0_B_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1 S1024x128.size (by sl_kernel_rfl) y

/-- What case B leaves in output 7's staging buffer: its pieces read back over junk. -/
def out0_B_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1)

/-- Case B's pieces for output 8 tile its block (8 stores of `S1024x128`, checked by the kernel's evaluation: Lib/Ring.lean `Piece.tiledL`, linear in the pieces, through a loop's `@[irreducible]` trip theorem too), so they cover it. -/
theorem cover0_B_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 S1024x128.size (by sl_kernel_rfl) y

/-- What case B leaves in output 8's staging buffer: its pieces read back over junk. -/
def out0_B_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1)

/-- Case B's pieces for scratch `arg12`, which the kernel carries between points, cover it: 1 piece of `S1024x2560` tiling it (Lib/Ring.lean `Piece.tiledL`). -/
theorem scover0_B_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1 S1024x2560.size (by sl_kernel_rfl) y

/-- What case B leaves in scratch `arg12`: its pieces read back over junk. -/
def sout0_B_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1)

/-- Case C's pieces for output 5 tile its block (1 store of `S1024x2560`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1 S1024x2560.size (by sl_kernel_rfl) y

/-- What case C leaves in output 5's staging buffer: its pieces read back over junk. -/
def out0_C_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1)

/-- Case C's pieces for output 6 tile its block (8 stores of `S1024x128`, checked by the kernel's evaluation: Lib/Ring.lean `Piece.tiledL`, linear in the pieces, through a loop's `@[irreducible]` trip theorem too), so they cover it. -/
theorem cover0_C_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1 S1024x128.size (by sl_kernel_rfl) y

/-- What case C leaves in output 6's staging buffer: its pieces read back over junk. -/
def out0_C_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .fp8e5m2 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1)

/-- Case C's pieces for output 7 tile its block (1 store of `S1024x128`, checked by the kernel's evaluation: Lib/Ring.lean `Piece.tiledL`, linear in the pieces, through a loop's `@[irreducible]` trip theorem too), so they cover it. -/
theorem cover0_C_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1 S1024x128.size (by sl_kernel_rfl) y

/-- What case C leaves in output 7's staging buffer: its pieces read back over junk. -/
def out0_C_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1)

/-- Case C's pieces for output 8 tile its block (8 stores of `S1024x128`, checked by the kernel's evaluation: Lib/Ring.lean `Piece.tiledL`, linear in the pieces, through a loop's `@[irreducible]` trip theorem too), so they cover it. -/
theorem cover0_C_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 S1024x128.size (by sl_kernel_rfl) y

/-- What case C leaves in output 8's staging buffer: its pieces read back over junk. -/
def out0_C_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1)

/-- Case C's pieces for scratch `arg12`, which the kernel carries between points, cover it: 1 piece of `S1024x2560` tiling it (Lib/Ring.lean `Piece.tiledL`). -/
theorem scover0_C_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1 S1024x2560.size (by sl_kernel_rfl) y

/-- What case C leaves in scratch `arg12`: its pieces read back over junk. -/
def sout0_C_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2560 .bf16 × Vec F S1024x1024 .fp8e5m2 × Vec F S1024x128 .f32 × Vec F S1024x1024 .bf16 × Vec F S2560x1024 .bf16 × Vec F S1024x2560 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then
        False.elim (by have hN : n + 1 < 96 := lt_of_lt_of_eq hn (show cfg0.N = 96 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, (outsAt0 c n (Nat.lt_of_succ_lt hn)).2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, (outsAt0 c n (Nat.lt_of_succ_lt hn)).2.2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (h1 : ¬t.val % 16 = 15) (d) :
    (dats m 0 c).before 7 t d = (outsAt0 m c (t.val - 1) (Nat.lt_of_le_of_lt (Nat.sub_le _ _) t.isLt)).2.2.1 := by
  have hN : t.val < 96 := lt_of_lt_of_eq t.isLt (show cfg0.N = 96 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 16 = 0) (h1 : t.val % 16 = 15) (d) :
    (dats m 0 c).before 7 t d = (outsAt0 m c (t.val - 1) (Nat.lt_of_le_of_lt (Nat.sub_le _ _) t.isLt)).2.2.1 := by
  have hN : t.val < 96 := lt_of_lt_of_eq t.isLt (show cfg0.N = 96 from N_0)
  rw [Dat.before_out_kept _ 7 rfl t (by omega) (Bool.eq_false_iff.mpr fun h => by have := (flush0_7 _).mp h; dsimp only at this; omega)
    (fun _ => rfl) (fun _ _ => rfl)]
  dsimp only [dats]

/-- At a point that is not a tile's first, output 9's current staging buffer holds what this tells of the point before:
    that point either stored it (a tile's first) or found it there and left it (by induction), and wrote nothing back. -/
theorem before0_9 (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  obtain ⟨n, hn⟩ := t
  induction n with
  | zero => exact absurd (Nat.zero_mod _) h0
  | succ n ih =>
    have hN : n + 1 < 96 := lt_of_lt_of_eq hn (show cfg0.N = 96 from N_0)
    dsimp only at h0
    have hfl : (cfg0.win 9).flush ⟨n, Nat.lt_of_succ_lt hn⟩ = false :=
      Bool.eq_false_iff.mpr fun h => by have := (flush0_9 _).mp h; dsimp only at this; omega
    rw [Dat.before_of_pos _ 9 _ (Nat.succ_ne_zero n) rfl]
    simp only [Nat.add_sub_cancel]
    rw [hfl, if_neg Bool.false_ne_true]
    unfold Dat.left
    by_cases hm : n % 16 = 0
    · rw [liveAt0_9_A ⟨n, Nat.lt_of_succ_lt hn⟩ ((hcond0_0 _).mpr hm) (fun h => by have := (hcond0_1 _).mp h; dsimp only at this; omega)]
      show (dats m 0 c).after 9 ⟨n, Nat.lt_of_succ_lt hn⟩ = _
      rw [after0_9]
    · have hc : ¬n % 16 = 15 := by omega
      rw [idleAt0_9_B ⟨n, Nat.lt_of_succ_lt hn⟩ (fun h => hm ((hcond0_0 _).mp h)) (fun h => hc ((hcond0_1 _).mp h))]
      show (dats m 0 c).before 9 ⟨n, Nat.lt_of_succ_lt hn⟩ d = _
      rw [ih (Nat.lt_of_succ_lt hn) hm]
      exact (congrArg (fun o => o.2.2.2.2.1) (outsAt0_B m c ⟨n, Nat.lt_of_succ_lt hn⟩ hm hc)).symm

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiA0_eq]
        rw [outsAt0_A m c t h0 h1]
        unfold out0_A_6 out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iintro ⟨H0, H1, H2, H3, H4, H5, ⟨%e6, H6⟩, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_6 out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexists _; iexact HS0
        iintro ⟨H0, H1, H2, H3, H4, H5, ⟨%e6, H6⟩, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _)
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [idleAt0_9_C t (fun h => h0 ((hcond0_0 t).mp h)) ((hcond0_1 t).mpr h1), (flush0_9 t).mpr (by omega)], after0_9]
      by_cases hz : t.val = 0
      · exfalso; have hN : t.val < 96 := lt_of_lt_of_eq t.isLt (show cfg0.N = 96 from N_0); omega
      · rw [PhiS_castSucc m c t, PhiS_pos m c _ _ hz]
        rw [outsAt0_C m c t h0 h1]
        simp only [before0_7_C m c t h0 h1, before0_9 m c t h0]
        unfold out0_C_5 out0_C_6 out0_C_7 out0_C_8 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexists _; iexact H8
        isplitl [H9]; · iexact H9
        isplitl [HS0]; · iexact HS0
        iintro ⟨H0, H1, H2, H3, H4, ⟨%e5, H5⟩, ⟨%e6, H6⟩, ⟨%e7, H7⟩, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _)
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 96 := lt_of_lt_of_eq t.isLt (show cfg0.N = 96 from N_0); omega
      · rw [PhiS_castSucc m c t, PhiS_pos m c _ _ hz]
        rw [outsAt0_B m c t h0 h1]
        simp only [before0_7_B m c t h0 h1]
        unfold out0_B_6 out0_B_7 out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [H9]; · iexact H9
        isplitl [HS0]; · iexact HS0
        iintro ⟨H0, H1, H2, H3, H4, H5, ⟨%e6, H6⟩, ⟨%e7, H7⟩, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _)
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Dx

end
-- ==== Proof.DxRuns.lean ====
/- What the runs of the first call's body share: its branch conditions in closed form over the grid points, where its
   windows are idle, its staging buffers and its scratch. Laid out as the library's generated frames are. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Dx

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 idle: the case stores nothing into it. -/
theorem idleAt0_9_C : ∀ t : Fin cfg0.N, ¬cond0_0 (grid0.coords t) → cond0_1 (grid0.coords t) → cfg0.idle 9 (grid0.coords t) = true := by decide +kernel

/-! ## The kernel body on any staging memrefs: a subtype the run finds -/

/-- One staging buffer of output window 5, through which its contents are stated (`View.read_writes_of_cover`: the
    choice does not matter). -/
abbrev VO0_5 : View sig .tc .vmem S1024x2560 .bf16 := (Memref.whole cc0_stg5_0 : Memref sig .tc .vmem S1024x2560 .bf16).view
/-- One staging buffer of output window 6, through which its contents are stated (`View.read_writes_of_cover`: the
    choice does not matter). -/
abbrev VO0_6 : View sig .tc .vmem S1024x1024 .fp8e5m2 := (Memref.whole cc0_stg6_0 : Memref sig .tc .vmem S1024x1024 .fp8e5m2).view
/-- One staging buffer of output window 7, through which its contents are stated (`View.read_writes_of_cover`: the
    choice does not matter). -/
abbrev VO0_7 : View sig .tc .vmem S1024x128 .f32 := (Memref.whole cc0_stg7_0 : Memref sig .tc .vmem S1024x128 .f32).view
/-- One staging buffer of output window 8, through which its contents are stated (`View.read_writes_of_cover`: the
    choice does not matter). -/
abbrev VO0_8 : View sig .tc .vmem S1024x1024 .bf16 := (Memref.whole cc0_stg8_0 : Memref sig .tc .vmem S1024x1024 .bf16).view
/-- One staging buffer of output window 9, through which its contents are stated (`View.read_writes_of_cover`: the
    choice does not matter). -/
abbrev VO0_9 : View sig .tc .vmem S2560x1024 .bf16 := (Memref.whole cc0_stg9_0 : Memref sig .tc .vmem S2560x1024 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2560x1024 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x2560 .f32 := Memref.whole cc0_scratch0
/-- The scratch `arg12` the kernel carries between points, as a view: what it holds is stated through it. -/
abbrev VS0_0 : View sig .tc .vmem S1024x2560 .f32 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Dx

end
-- ==== Proof.DxRunA.lean ====
/- The body of the first call run at the points that begin a tile of rows (chunk 0): what each buffer ends with. -/
module

public import proofs.«01_k».proof.Proof.DxRuns

@[expose] public section

-- membership in a rectangle of production extents (`View.cover_of_tiled`): the elaborator's structural look
-- recurses once per coordinate of the long axes
set_option maxRecDepth 16384

noncomputable section

namespace Cert.KernelIdeal.Dx

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, 32, 48, 64, 80), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi5 : Vec F S1024x2560 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨[], ?_, ?_, ?_, ?_, ?_, fun xi5 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Dx

end
-- ==== Proof.DxRunB.lean ====
/- The body of the first call run at the middle points of a tile of rows: what each buffer ends with. -/
module

public import proofs.«01_k».proof.Proof.DxRunA

@[expose] public section

-- membership in a rectangle of production extents (`View.cover_of_tiled`): the elaborator's structural look
-- recurses once per coordinate of the long axes
set_option maxRecDepth 16384

noncomputable section

namespace Cert.KernelIdeal.Dx

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 94: 84 of 96), WITH the
    proof that on whole staging memrefs — the inputs' at their contents, the outputs it reads before covering (7) at their running contents `xo·`, the outputs it leaves idle (5, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi5 : Vec F S1024x2560 .bf16) (xi9 : Vec F S2560x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xo7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨[], ?_, ?_, ?_, [], ?_, fun xi5 xi9 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]
    · iexists _; isplitr; · ipureintro; exact harg11.read_unread _
      iexact H9
    iexists _; iexact HS0

end Cert.KernelIdeal.Dx

end
-- ==== Proof.DxRunC.lean ====
/- The body of the first call run at the points that end a tile of rows (chunk 15): what each buffer ends with. -/
module

public import proofs.«01_k».proof.Proof.DxRunB

@[expose] public section

-- membership in a rectangle of production extents (`View.cover_of_tiled`): the elaborator's structural look
-- recurses once per coordinate of the long axes
set_option maxRecDepth 16384

noncomputable section

namespace Cert.KernelIdeal.Dx

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, 47, 63, 79, 95), WITH the
    proof that on whole staging memrefs — the inputs' at their contents, the outputs it reads before covering (7) at their running contents `xo·`, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) :
    Σ' (L5 : List (View.Piece (Elt F) S1024x2560 .bf16)), Σ' (L6 : List (View.Piece (Elt F) S1024x1024 .fp8e5m2)), Σ' (L7 : List (View.Piece (Elt F) S1024x128 .f32)), Σ' (L8 : List (View.Piece (Elt F) S1024x1024 .bf16)), Σ' (L9 : List (View.Piece (Elt F) S2560x1024 .bf16)), { LS0 : List (View.Piece (Elt F) S1024x2560 .f32) //
      ∀ (xi9 : Vec F S2560x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ (∃ d, owns (c : Thread nD τ) arg10 fullShare d) ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12) K } := by
  refine ⟨?_, ?_, ?_, ?_, [], ?_, fun xi9 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg11.read_unread _
      iexact H9
    iexists _; iexact HS0

end Cert.KernelIdeal.Dx

end
-- ==== Proof.DxFrame.lean ====
/- The frame of the first call. Output 9 (the transposed activations) is stored at a tile's first point and written
   back at its last one, which stores nothing into it: so what its buffer holds is carried from point to point
   (`outsAt0`'s component for it at a point that stores nothing is the point before's, and `before0_9` says that the
   body finds just that), and what the last point writes back is what the first one stored. -/
module

public import proofs.«01_k».proof.Proof.DxRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Dx

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x2560 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

/-- Case A's pieces for output 6 tile its block (8 stores of `S1024x128`, checked by the kernel's evaluation: Lib/Ring.lean `Piece.tiledL`, linear in the pieces, through a loop's `@[irreducible]` trip theorem too), so they cover it. -/
theorem cover0_A_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1024x128.size (by sl_kernel_rfl) y

/-- What case A leaves in output 6's staging buffer: its pieces read back over junk. -/
def out0_A_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x1024 .fp8e5m2 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

/-- Case A's pieces for output 7 tile its block (2 stores of `S1024x128`, checked by the kernel's evaluation: Lib/Ring.lean `Piece.tiledL`, linear in the pieces, through a loop's `@[irreducible]` trip theorem too), so they cover it. -/
theorem cover0_A_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1024x128.size (by sl_kernel_rfl) y

/-- What case A leaves in output 7's staging buffer: its pieces read back over junk. -/
def out0_A_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- Case A's pieces for output 8 tile its block (8 stores of `S1024x128`, checked by the kernel's evaluation: Lib/Ring.lean `Piece.tiledL`, linear in the pieces, through a loop's `@[irreducible]` trip theorem too), so they cover it. -/
theorem cover0_A_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1 S1024x128.size (by sl_kernel_rfl) y

/-- What case A leaves in output 8's staging buffer: its pieces read back over junk. -/
def out0_A_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- Case A's pieces for output 9 tile its block (1 store of `S2560x1024`, checked by the kernel's evaluation: Lib/Ring.lean `Piece.tiledL`, linear in the pieces, through a loop's `@[irreducible]` trip theorem too), so they cover it. -/
theorem cover0_A_9 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S2560x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S2560x1024.size (by sl_kernel_rfl) y

/-- What case A leaves in output 9's staging buffer: its pieces read back over junk. -/
def out0_A_9 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S2560x1024 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- Case A's pieces for scratch `arg12`, which the kernel carries between points, cover it: 2 pieces of `S1024x2560` tiling it (Lib/Ring.lean `Piece.tiledL`). -/
theorem scover0_A_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) (y : S1024x2560.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1 S1024x2560.size (by sl_kernel_rfl) y

/-- What case A leaves in scratch `arg12`: its pieces read back over junk. -/
def sout0_A_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec F S1 .f32) (x1 : Vec F S1024x1024 .bf16) (x2 : Vec F S640x1024 .i8) (x3 : Vec F S1024x2560 .i8) (x4 : Vec F S1024x1 .f32) : Vec F S1024x2560 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).1)

/-- Case B's pieces for output 6 tile its block (8 stores of `S1024x128`, checked by the kernel's evaluation: Lib/Ring.lean `Piece.tiledL`, linear in the pieces, through a loop's `@[irreducible]` trip theorem too), so they cover it. -/
theorem cover0_B_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1 S1024x128.size (by sl_kernel_rfl) y

/-- What case B leaves in output 6's staging buffer: its pieces read back over junk. -/
def out0_B_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .fp8e5m2 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.1)

/-- Case B's pieces for output 7 tile its block (1 store of `S1024x128`, checked by the kernel's evaluation: Lib/Ring.lean `Piece.tiledL`, linear in the pieces, through a loop's `@[irreducible]` trip theorem too), so they cover it. -/
theorem cover0_B_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1 S1024x128.size (by sl_kernel_rfl) y

/-- What case B leaves in output 7's staging buffer: its pieces read back over junk. -/
def out0_B_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1)

/-- Case B's pieces for output 8 tile its block (8 stores of `S1024x128`, checked by the kernel's evaluation: Lib/Ring.lean `Piece.tiledL`, linear in the pieces, through a loop's `@[irreducible]` trip theorem too), so they cover it. -/
theorem cover0_B_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 S1024x128.size (by sl_kernel_rfl) y

/-- What case B leaves in output 8's staging buffer: its pieces read back over junk. -/
def out0_B_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1)

/-- Case B's pieces for scratch `arg12`, which the kernel carries between points, cover it: 1 piece of `S1024x2560` tiling it (Lib/Ring.lean `Piece.tiledL`). -/
theorem scover0_B_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1 S1024x2560.size (by sl_kernel_rfl) y

/-- What case B leaves in scratch `arg12`: its pieces read back over junk. -/
def sout0_B_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1)

/-- Case C's pieces for output 5 tile its block (1 store of `S1024x2560`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1 S1024x2560.size (by sl_kernel_rfl) y

/-- What case C leaves in output 5's staging buffer: its pieces read back over junk. -/
def out0_C_5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).1)

/-- Case C's pieces for output 6 tile its block (8 stores of `S1024x128`, checked by the kernel's evaluation: Lib/Ring.lean `Piece.tiledL`, linear in the pieces, through a loop's `@[irreducible]` trip theorem too), so they cover it. -/
theorem cover0_C_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1 S1024x128.size (by sl_kernel_rfl) y

/-- What case C leaves in output 6's staging buffer: its pieces read back over junk. -/
def out0_C_6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .fp8e5m2 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.1)

/-- Case C's pieces for output 7 tile its block (1 store of `S1024x128`, checked by the kernel's evaluation: Lib/Ring.lean `Piece.tiledL`, linear in the pieces, through a loop's `@[irreducible]` trip theorem too), so they cover it. -/
theorem cover0_C_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1 S1024x128.size (by sl_kernel_rfl) y

/-- What case C leaves in output 7's staging buffer: its pieces read back over junk. -/
def out0_C_7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.1)

/-- Case C's pieces for output 8 tile its block (8 stores of `S1024x128`, checked by the kernel's evaluation: Lib/Ring.lean `Piece.tiledL`, linear in the pieces, through a loop's `@[irreducible]` trip theorem too), so they cover it. -/
theorem cover0_C_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 S1024x128.size (by sl_kernel_rfl) y

/-- What case C leaves in output 8's staging buffer: its pieces read back over junk. -/
def out0_C_8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1)

/-- Case C's pieces for scratch `arg12`, which the kernel carries between points, cover it: 1 piece of `S1024x2560` tiling it (Lib/Ring.lean `Piece.tiledL`). -/
theorem scover0_C_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) (y : S1024x2560.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1 S1024x2560.size (by sl_kernel_rfl) y

/-- What case C leaves in scratch `arg12`: its pieces read back over junk. -/
def sout0_C_0 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec F S1 .f32) (x1 : Vec F S1024x1024 .bf16) (x2 : Vec F S640x1024 .i8) (x3 : Vec F S1024x2560 .i8) (x4 : Vec F S1024x1 .f32) (xo7 : Vec F S1024x128 .f32) (xs0 : Vec F S1024x2560 .f32) : Vec F S1024x2560 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2560 .bf16 × Vec F S1024x1024 .fp8e5m2 × Vec F S1024x128 .f32 × Vec F S1024x1024 .bf16 × Vec F S2560x1024 .bf16 × Vec F S1024x2560 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then
        False.elim (by have hN : n + 1 < 96 := lt_of_lt_of_eq hn (show cfg0.N = 96 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, (outsAt0 c n (Nat.lt_of_succ_lt hn)).2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2, (outsAt0 c n (Nat.lt_of_succ_lt hn)).2.2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2, (outsAt0 m c (t.val - 1) (Nat.lt_of_le_of_lt (Nat.sub_le _ _) t.isLt)).2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (h1 : ¬t.val % 16 = 15) (d) :
    (dats m 0 c).before 7 t d = (outsAt0 m c (t.val - 1) (Nat.lt_of_le_of_lt (Nat.sub_le _ _) t.isLt)).2.2.1 := by
  have hN : t.val < 96 := lt_of_lt_of_eq t.isLt (show cfg0.N = 96 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 16 = 0) (h1 : t.val % 16 = 15) (d) :
    (dats m 0 c).before 7 t d = (outsAt0 m c (t.val - 1) (Nat.lt_of_le_of_lt (Nat.sub_le _ _) t.isLt)).2.2.1 := by
  have hN : t.val < 96 := lt_of_lt_of_eq t.isLt (show cfg0.N = 96 from N_0)
  rw [Dat.before_out_kept _ 7 rfl t (by omega) (Bool.eq_false_iff.mpr fun h => by have := (flush0_7 _).mp h; dsimp only at this; omega)
    (fun _ => rfl) (fun _ _ => rfl)]
  dsimp only [dats]

/-- At a point that is not a tile's first, output 9's current staging buffer holds what this tells of the point before:
    that point either stored it (a tile's first) or found it there and left it (by induction), and wrote nothing back. -/
theorem before0_9 (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  obtain ⟨n, hn⟩ := t
  induction n with
  | zero => exact absurd (Nat.zero_mod _) h0
  | succ n ih =>
    have hN : n + 1 < 96 := lt_of_lt_of_eq hn (show cfg0.N = 96 from N_0)
    dsimp only at h0
    have hfl : (cfg0.win 9).flush ⟨n, Nat.lt_of_succ_lt hn⟩ = false :=
      Bool.eq_false_iff.mpr fun h => by have := (flush0_9 _).mp h; dsimp only at this; omega
    rw [Dat.before_of_pos _ 9 _ (Nat.succ_ne_zero n) rfl]
    simp only [Nat.add_sub_cancel]
    rw [hfl, if_neg Bool.false_ne_true]
    unfold Dat.left
    by_cases hm : n % 16 = 0
    · rw [liveAt0_9_A ⟨n, Nat.lt_of_succ_lt hn⟩ ((hcond0_0 _).mpr hm) (fun h => by have := (hcond0_1 _).mp h; dsimp only at this; omega)]
      show (dats m 0 c).after 9 ⟨n, Nat.lt_of_succ_lt hn⟩ = _
      rw [after0_9]
    · have hc : ¬n % 16 = 15 := by omega
      rw [idleAt0_9_B ⟨n, Nat.lt_of_succ_lt hn⟩ (fun h => hm ((hcond0_0 _).mp h)) (fun h => hc ((hcond0_1 _).mp h))]
      show (dats m 0 c).before 9 ⟨n, Nat.lt_of_succ_lt hn⟩ d = _
      rw [ih (Nat.lt_of_succ_lt hn) hm]
      exact (congrArg (fun o => o.2.2.2.2.1) (outsAt0_B m c ⟨n, Nat.lt_of_succ_lt hn⟩ hm hc)).symm

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiA0_eq]
        rw [outsAt0_A m c t h0 h1]
        unfold out0_A_6 out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iintro ⟨H0, H1, H2, H3, H4, H5, ⟨%e6, H6⟩, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_6 out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexists _; iexact HS0
        iintro ⟨H0, H1, H2, H3, H4, H5, ⟨%e6, H6⟩, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _)
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [idleAt0_9_C t (fun h => h0 ((hcond0_0 t).mp h)) ((hcond0_1 t).mpr h1), (flush0_9 t).mpr (by omega)], after0_9]
      by_cases hz : t.val = 0
      · exfalso; have hN : t.val < 96 := lt_of_lt_of_eq t.isLt (show cfg0.N = 96 from N_0); omega
      · rw [PhiS_castSucc m c t, PhiS_pos m c _ _ hz]
        rw [outsAt0_C m c t h0 h1]
        simp only [before0_7_C m c t h0 h1, before0_9 m c t h0]
        unfold out0_C_5 out0_C_6 out0_C_7 out0_C_8 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexists _; iexact H8
        isplitl [H9]; · iexact H9
        isplitl [HS0]; · iexact HS0
        iintro ⟨H0, H1, H2, H3, H4, ⟨%e5, H5⟩, ⟨%e6, H6⟩, ⟨%e7, H7⟩, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _)
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 96 := lt_of_lt_of_eq t.isLt (show cfg0.N = 96 from N_0); omega
      · rw [PhiS_castSucc m c t, PhiS_pos m c _ _ hz]
        rw [outsAt0_B m c t h0 h1]
        simp only [before0_7_B m c t h0 h1]
        unfold out0_B_6 out0_B_7 out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [H9]; · iexact H9
        isplitl [HS0]; · iexact HS0
        iintro ⟨H0, H1, H2, H3, H4, H5, ⟨%e6, H6⟩, ⟨%e7, H7⟩, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _)
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Dx

end
-- ==== Proof.Dw.lean ====
module

public import proofs.«01_k».proof.Defs
public import proofs.«01_k».proof.Proof.Gen.KernelDwIdeal.Value
public import proofs.«01_k».proof.Proof.Gen.ReferenceDwIdeal.Run
public import proofs.«01_k».proof.Proof.Gen.ReferenceDwIdeal.Read
public import Idealize.ShloMosaic.Lib.Pipeline.Value
public import Idealize.ShloMosaic.Lib.MatmulPlain
public import Idealize.ShloMosaic.Lib.Pointwise.Tactic

/-! The weight-gradient call. Grid point `n` multiplies the whole of `xdt` (2560 × 6144) with
columns `512 n … 512 n + 511` of `dq` (6144 × 16384); the 32 products laid side by side are the
whole product, which is what the reference computes. -/

@[expose] public section

noncomputable section

namespace Cert.KernelDwIdeal.Dw

open Cert.KernelDwIdeal Cert.KernelDwIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The product of `xdt` and `dq`, entry by entry. -/
def dwArr (x : FVec Ideal S2560x6144 .bf16) (d : FVec Ideal S6144x16384 .bf16) :
    FVec Ideal S2560x16384 .f32 :=
  fun i => ∑ k : Fin 6144, (x (ix2 (i 0) k) : EReal) * d (ix2 k (i 1))

/-- The payload of one grid point is a plain product. -/
theorem pay1_apply (x : FVec Ideal S2560x6144 .bf16) (y : FVec Ideal S6144x512 .bf16) (j : S2560x512.Idx) :
    k0_pay1 (F := Ideal) x y j = ∑ k : Fin 6144, (x (ix2 (j 0) k) : EReal) * y (ix2 k (j 1)) := by
  have hd : dot_S2560x6144_S6144x512_S2560x512_1_0_0_1_n_n = DotDims.plain 2560 6144 512 := rfl
  have hj : j = ix2 (j 0) (j 1) := eq_ix2 j
  rw [hj]
  show FloatOps.matmul (DotDims.plain 2560 6144 512) none x y _ (ix2 (j 0) (j 1)) = _
  refine (Ideal.matmul_plain_apply ..).trans ?_
  show Ideal.ofBits .f32 0x00000000#32 + _ = _
  rw [Ideal.ofBits_zero_f32, zero_add]
  rfl

/-- What one grid point stores is its payload on the two blocks. -/
theorem out0_2_eq (x0 : Vec Ideal S2560x6144 .bf16) (x1 : Vec Ideal S6144x512 .bf16) :
    out0_2 x0 x1 = k0_pay1 x0 x1 := by
  unfold out0_2
  rw [View.canon_unit_zero hz]
  simp only [View.ld_unit_zero (S := S2560x6144) hz, View.ld_unit_zero (S := S6144x512) hz]

theorem idx0 : ∀ t : Fin cfg0.N, win0_0.index t 0 = 0 ∧ win0_0.index t 1 = 0 := (by decide +kernel : ∀ t : Fin grid0.N, _)
theorem idx1 : ∀ t : Fin cfg0.N, win0_1.index t 0 = 0 ∧ win0_1.index t 1 = t.val := (by decide +kernel : ∀ t : Fin grid0.N, _)
theorem idx2 : ∀ t : Fin cfg0.N, win0_2.index t 0 = 0 ∧ win0_2.index t 1 = t.val := (by decide +kernel : ∀ t : Fin grid0.N, _)

variable (m : (ℓ : Loc nD τ sig) → Buf (Elt Ideal) ℓ) (ρ : Dev nD → PrngReg)

/-- Block 0 of every point is the whole of `xdt`. -/
theorem blk0 (c : Dev nD) (t : Fin cfg0.N) (j : S2560x6144.Idx) :
    (iblk m c 0 t : FVec Ideal S2560x6144 .bf16) j = m ((c : Thread nD τ).loc main_arg0) j := by
  unfold iblk
  rw [View.read_apply]
  show V m c main_arg0 _ = V m c main_arg0 _
  congr 1
  funext a
  apply Fin.ext
  match a with
  | ⟨0, _⟩ => show win0_0.index t 0 * 2560 + 1 * (j 0).val = (j 0).val; rw [(idx0 t).1]; omega
  | ⟨1, _⟩ => show win0_0.index t 1 * 6144 + 1 * (j 1).val = (j 1).val; rw [(idx0 t).2]; omega

/-- Block 1 of point `n` is the columns `512 n …` of `dq`. -/
theorem blk1 (c : Dev nD) (t : Fin cfg0.N) (j : S6144x512.Idx) (i : S6144x16384.Idx)
    (h0 : (i 0).val = (j 0).val) (h1 : (i 1).val = t.val * 512 + (j 1).val) :
    (iblk m c 1 t : FVec Ideal S6144x512 .bf16) j = m ((c : Thread nD τ).loc main_arg1) i := by
  unfold iblk
  rw [View.read_apply]
  show V m c main_arg1 _ = V m c main_arg1 _
  congr 1
  funext a
  apply Fin.ext
  match a with
  | ⟨0, _⟩ => show win0_1.index t 0 * 6144 + 1 * (j 0).val = (i 0).val; rw [(idx1 t).1, h0]; omega
  | ⟨1, _⟩ => show win0_1.index t 1 * 512 + 1 * (j 1).val = (i 1).val; rw [(idx1 t).2, h1]; omega

/-- Entry `j` of point `n`'s product is entry `i` of the whole product, `i` being `j` moved `512 n` columns. -/
theorem pay1_blocks (c : Dev nD) (t : Fin cfg0.N) (j : S2560x512.Idx) (i : S2560x16384.Idx)
    (h0 : (i 0).val = (j 0).val) (h1 : (i 1).val = t.val * 512 + (j 1).val) :
    k0_pay1 (F := Ideal) (iblk m c 0 t) (iblk m c 1 t) j
      = dwArr (m ((c : Thread nD τ).loc main_arg0)) (m ((c : Thread nD τ).loc main_arg1)) i := by
  refine (pay1_apply _ _ j).trans ?_
  unfold dwArr
  refine Finset.sum_congr rfl fun k _ => ?_
  refine congrArg₂ (fun a b : EReal => a * b) ((blk0 m c t _).trans (congrArg (m ((c : Thread nD τ).loc main_arg0)) ?_)) (blk1 m c t _ _ rfl h1)
  exact congrArg (fun r : Fin 2560 => ix2 r k) (Fin.ext h0.symm)

set_option maxRecDepth 65536 in
/-- The array the call leaves is the whole product. -/
theorem final_dw (c : Dev nD) :
    (dats m 0 c).arrAt 2 cfg0.N = dwArr (m ((c : Thread nD τ).loc main_arg0)) (m ((c : Thread nD τ).loc main_arg1)) := by
  refine (dats m 0 c).arrAt_eq_of_cover 2 _ (fun t _ => ?_) fun i => ?_
  · rw [Value.flushed2, out0_2_eq]
    funext j
    show k0_pay1 (F := Ideal) (iblk m c 0 t) (iblk m c 1 t) j = _
    rw [View.read_apply]
    refine pay1_blocks m c t j (((cfg0.win 2).blk t).view.emb j) ?_ ?_
    · show win0_2.index t 0 * 2560 + 1 * (j 0).val = _
      rw [(idx2 t).1]; omega
    · show win0_2.index t 1 * 512 + 1 * (j 1).val = _
      rw [(idx2 t).2]; omega
  · have hN : cfg0.N = 32 := N_0
    have h0 : (i 0 : Nat) < 2560 := (i 0).isLt
    have h1 : (i 1 : Nat) < 16384 := (i 1).isLt
    have ht : (i 1 : Nat) / 512 < cfg0.N := by rw [hN]; omega
    refine ⟨⟨(i 1 : Nat) / 512, ht⟩, flush0_2 _, ?_⟩
    · show i ∈ ((View.whole main_v0).slice (win0_2.rect ⟨(i 1 : Nat) / 512, ht⟩)).set
      rw [View.set_slice_whole, Rect.mem_set_unit]
      intro a
      match a with
      | ⟨0, _⟩ =>
        show win0_2.index _ 0 * 2560 ≤ (i 0 : Nat) ∧ (i 0 : Nat) < win0_2.index _ 0 * 2560 + 2560
        rw [(idx2 _).1]; omega
      | ⟨1, _⟩ =>
        show win0_2.index _ 1 * 512 ≤ (i 1 : Nat) ∧ (i 1 : Nat) < win0_2.index _ 1 * 512 + 512
        rw [(idx2 _).2]; dsimp only; omega

/-- The run of the kernel, its result the whole product. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = dwArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_dw m c), (h c).2.1, (h c).2.2⟩) (Value.run_blocks m ρ)

/-- The reference's product is the same sum. -/
theorem ref_eq (x : FVec Ideal S2560x6144 .bf16) (d : FVec Ideal S6144x16384 .bf16) :
    Cert.ReferenceDwIdeal.Read.val_main_v0 (F := Ideal) x d = dwArr x d := by
  funext i
  rw [Cert.ReferenceDwIdeal.Read.val_main_v0_apply]
  unfold dwArr
  refine Finset.sum_congr rfl fun k _ => congrArg₂ (· * ·) (congrArg x ?_) (congrArg d ?_) <;>
    (funext a; match a with
      | ⟨0, _⟩ => rfl
      | ⟨1, _⟩ => rfl)

/-- The weight gradient: kernel and reference end with equal products. -/
theorem algebraic : algebraic_KernelDwIdeal_ReferenceDwIdeal (hKernelDwIdeal := Cert.KernelDwIdeal.Gen.facts)
    (hReferenceDwIdeal := Cert.ReferenceDwIdeal.Gen.facts) := by
  intro m g m' g' _ hargs
  refine ⟨fun c => dwArr (m ((c.tc : Thread nD τ).loc main_arg0)) (m ((c.tc : Thread nD τ).loc main_arg1)), run m g, ?_⟩
  refine (θ_run _ _ _).mono (fun r h c => ⟨((h c).1.trans ?_), (h c).2⟩) (Cert.ReferenceDwIdeal.Value.run m' g')
  rw [(hargs c).1, (hargs c).2]
  exact (Cert.ReferenceDwIdeal.Read.val_main_v0_eq _ _).trans (ref_eq _ _)

end Cert.KernelDwIdeal.Dw

end
-- ==== Proof.DxMath.lean ====
module

public import Idealize.ShloMosaic.PureOps.Ideal.Laws
public import Idealize.ShloMosaic.Lib.IdealHost

/-! The power-of-two scale of one block, over the extended reals. The kernel searches the exponent field of
`t = max |dy| / 57344` bit by bit and builds the scale and its reciprocal by integer arithmetic on that field; the
reference takes `⌊log₂ t⌋ + 1` and raises two to it. For `0 ≤ t < 2¹¹³` they agree. -/

@[expose] public section

noncomputable section

namespace Cert.DxMath

open Idealize.ShloMosaic

/-- The number whose exponent field is `n`, its significand empty. -/
def thr (n : ℕ) : EReal := Ideal.ofBits .f32 (BitVec.ofNat 32 (n * 8388608))

/-- A pattern whose only set bits are the exponent field `n` is the power of two `2 ^ (n - 127)`. -/
theorem ieee_pow {n : ℕ} (h1 : 1 ≤ n) (h2 : n ≤ 254) (b : BitVec 32) (hb : b.toNat = n * 8388608) :
    Ideal.ieee 8 23 b = (((2 : ℝ) ^ ((n : ℤ) - 127) : ℝ) : EReal) := by
  have hneg : b.extractLsb' (8 + 23) 1 = 0#1 := by
    apply BitVec.eq_of_toNat_eq
    simp only [BitVec.extractLsb'_toNat, hb, Nat.shiftRight_eq_div_pow, BitVec.toNat_ofNat]
    omega
  have hex : (b.extractLsb' 23 8).toNat = n := by
    simp only [BitVec.extractLsb'_toNat, hb, Nat.shiftRight_eq_div_pow]
    omega
  have hfr : (b.extractLsb' 0 23).toNat = 0 := by
    simp only [BitVec.extractLsb'_toNat, hb, Nat.shiftRight_eq_div_pow]
    omega
  clear hb
  have hn : ((0#1 : BitVec 1) == 1#1) = false := by decide
  have e1 : ¬ (n = 2 ^ 8 - 1) := by norm_num; omega
  have e2 : ¬ (n = 0) := by omega
  have hz : ((n : ℤ) - (2 ^ (8 - 1) - 1) - (23 : ℕ)) = ((n : ℤ) - 127) + (-23) := by norm_num; ring
  unfold Ideal.ieee
  simp only [hneg, hex, hfr, hn, if_neg e1, if_neg e2, hz]
  rw [zpow_add₀ (by norm_num : (2 : ℝ) ≠ 0)]
  congr 1
  generalize (2 : ℝ) ^ ((n : ℤ) - 127) = x
  norm_num
  ring

theorem thr_eq {n : ℕ} (h1 : 1 ≤ n) (h2 : n ≤ 254) : thr n = (((2 : ℝ) ^ ((n : ℤ) - 127) : ℝ) : EReal) := by
  unfold thr
  generalize hb : BitVec.ofNat 32 (n * 8388608) = b
  have hb' : b.toNat = n * 8388608 := by
    rw [← hb, BitVec.toNat_ofNat]
    omega
  exact ieee_pow h1 h2 b hb'

theorem thr_255 : thr 255 = ⊤ := by
  unfold thr
  simp [Ideal.ofBits, Ideal.ieee]

/-- One step of the search: raise the field by `c` if `t` is at least the raised number. -/
def step (t : EReal) (c e : BitVec 32) : BitVec 32 :=
  Scalar.select (Ideal.cmp .oge t (Ideal.ofBits .f32 (e + c))) (e + c) e

/-- The exponent field the kernel finds. -/
def expBits (t : EReal) : BitVec 32 :=
  step t 8388608#32 (step t 16777216#32 (step t 33554432#32 (step t 67108864#32 (step t 134217728#32
    (step t 268435456#32 (step t 536870912#32 (step t 1073741824#32 0#32)))))))

/-- `n` is the exponent field of `t`. -/
def IsExp (t : EReal) (n : ℕ) : Prop := n ≤ 254 ∧ ∀ c, 1 ≤ c → c ≤ 255 → (thr c ≤ t ↔ c ≤ n)

theorem step_inv {t : EReal} {n : ℕ} (hn : IsExp t n) (m k : ℕ) (hk : 1 ≤ k) (h1 : m ≤ n) (h2 : n < m + 2 * k)
    (h3 : m + 2 * k ≤ 256) :
    ∃ m', step t (BitVec.ofNat 32 (k * 8388608)) (BitVec.ofNat 32 (m * 8388608)) = BitVec.ofNat 32 (m' * 8388608)
      ∧ m' ≤ n ∧ n < m' + k ∧ m' + k ≤ 256 := by
  have hadd : BitVec.ofNat 32 (m * 8388608) + BitVec.ofNat 32 (k * 8388608) = BitVec.ofNat 32 ((m + k) * 8388608) := by
    rw [add_mul, BitVec.ofNat_add]
  have hc := hn.2 (m + k) (by omega) (by omega)
  unfold step
  rw [hadd]
  change thr (m + k) ≤ t ↔ m + k ≤ n at hc
  by_cases h : m + k ≤ n
  · refine ⟨m + k, ?_, h, by omega, by omega⟩
    have ht : thr (m + k) ≤ t := hc.mpr h
    show Scalar.select (BitVec.ofBool (decide (thr (m + k) ≤ t))) _ _ = _
    rw [decide_eq_true ht]
    rfl
  · refine ⟨m, ?_, h1, by omega, by omega⟩
    have ht : ¬thr (m + k) ≤ t := fun h' => h (hc.mp h')
    show Scalar.select (BitVec.ofBool (decide (thr (m + k) ≤ t))) _ _ = _
    rw [decide_eq_false ht]
    rfl

theorem expBits_eq {t : EReal} {n : ℕ} (hn : IsExp t n) : expBits t = BitVec.ofNat 32 (n * 8388608) := by
  have h254 := hn.1
  obtain ⟨m1, e1, a1, b1, c1⟩ := step_inv hn 0 128 (by omega) (by omega) (by omega) (by omega)
  obtain ⟨m2, e2, a2, b2, c2⟩ := step_inv hn m1 64 (by omega) a1 (by omega) (by omega)
  obtain ⟨m3, e3, a3, b3, c3⟩ := step_inv hn m2 32 (by omega) a2 (by omega) (by omega)
  obtain ⟨m4, e4, a4, b4, c4⟩ := step_inv hn m3 16 (by omega) a3 (by omega) (by omega)
  obtain ⟨m5, e5, a5, b5, c5⟩ := step_inv hn m4 8 (by omega) a4 (by omega) (by omega)
  obtain ⟨m6, e6, a6, b6, c6⟩ := step_inv hn m5 4 (by omega) a5 (by omega) (by omega)
  obtain ⟨m7, e7, a7, b7, c7⟩ := step_inv hn m6 2 (by omega) a6 (by omega) (by omega)
  obtain ⟨m8, e8, a8, b8, c8⟩ := step_inv hn m7 1 (by omega) a7 (by omega) (by omega)
  unfold expBits
  have z1 : step t 1073741824#32 0#32 = BitVec.ofNat 32 (m1 * 8388608) := e1
  have z2 : step t 536870912#32 (BitVec.ofNat 32 (m1 * 8388608)) = BitVec.ofNat 32 (m2 * 8388608) := e2
  have z3 : step t 268435456#32 (BitVec.ofNat 32 (m2 * 8388608)) = BitVec.ofNat 32 (m3 * 8388608) := e3
  have z4 : step t 134217728#32 (BitVec.ofNat 32 (m3 * 8388608)) = BitVec.ofNat 32 (m4 * 8388608) := e4
  have z5 : step t 67108864#32 (BitVec.ofNat 32 (m4 * 8388608)) = BitVec.ofNat 32 (m5 * 8388608) := e5
  have z6 : step t 33554432#32 (BitVec.ofNat 32 (m5 * 8388608)) = BitVec.ofNat 32 (m6 * 8388608) := e6
  have z7 : step t 16777216#32 (BitVec.ofNat 32 (m6 * 8388608)) = BitVec.ofNat 32 (m7 * 8388608) := e7
  have z8 : step t 8388608#32 (BitVec.ofNat 32 (m7 * 8388608)) = BitVec.ofNat 32 (m8 * 8388608) := e8
  rw [z1, z2, z3, z4, z5, z6, z7, z8]
  have : m8 = n := by omega
  rw [this]

/-- The bits of the kernel's scale. -/
def scaleBits (t : EReal) : BitVec 32 :=
  Scalar.select (IntOp.ori (IntOp.cmpi .eq (expBits t) 0#32) (IntOp.cmpi .eq (expBits t) 2139095040#32))
    1065353216#32 (expBits t + 8388608#32)

/-- The kernel's scale. -/
def sc (t : EReal) : EReal := Ideal.ofBits .f32 (scaleBits t)

/-- The kernel's reciprocal of the scale. -/
def inv (t : EReal) : EReal := Ideal.ofBits .f32 (2130706432#32 - scaleBits t)

theorem scaleBits_zero {t : EReal} (h : IsExp t 0) : scaleBits t = 1065353216#32 := by
  unfold scaleBits
  rw [expBits_eq h]
  rfl

theorem scaleBits_pos {t : EReal} {n : ℕ} (h : IsExp t n) (h1 : 1 ≤ n) :
    scaleBits t = BitVec.ofNat 32 ((n + 1) * 8388608) := by
  have h254 := h.1
  unfold scaleBits
  rw [expBits_eq h]
  have z0 : (BitVec.ofNat 32 (n * 8388608) == 0#32) = false := by
    rw [beq_eq_false_iff_ne]; intro h'
    have := congrArg BitVec.toNat h'
    simp only [BitVec.toNat_ofNat] at this
    omega
  have z1 : (BitVec.ofNat 32 (n * 8388608) == 2139095040#32) = false := by
    rw [beq_eq_false_iff_ne]; intro h'
    have := congrArg BitVec.toNat h'
    simp only [BitVec.toNat_ofNat] at this
    omega
  show Scalar.select (BitVec.ofBool (_ == _) ||| BitVec.ofBool (_ == _)) _ _ = _
  rw [z0, z1]
  show BitVec.ofNat 32 (n * 8388608) + BitVec.ofNat 32 8388608 = _
  rw [add_mul, BitVec.ofNat_add]

/-- The exponent the reference raises two to. -/
def refE (t : EReal) : EReal :=
  let t' := Scalar.select (Ideal.cmp .olt t (Ideal.ofBits .f32 0x00800000#32)) (Ideal.ofBits .f32 0x00000000#32) t
  Scalar.select (Ideal.cmp .oeq t' (Ideal.ofBits .f32 0x00000000#32)) (Ideal.ofBits .f32 0x00000000#32)
    (Ideal.liftRound Int.floor (Ideal.div (Ideal.log t') (Ideal.log (Ideal.ofBits .f32 0x40000000#32)))
      + Ideal.ofBits .f32 0x3F800000#32)

/-- The reference's scale. -/
def refSc (t : EReal) : EReal := Ideal.exp2 (refE t)

/-- The reference's reciprocal of the scale. -/
def refInv (t : EReal) : EReal := Ideal.exp2 (Ideal.ofBits .f32 0x00000000#32 - refE t)

theorem tiny_eq : Ideal.ofBits .f32 0x00800000#32 = (((2 : ℝ) ^ (-126 : ℤ) : ℝ) : EReal) :=
  (thr_eq (n := 1) (by omega) (by omega)).trans (by norm_num)

theorem two_eq : Ideal.ofBits .f32 0x40000000#32 = ((2 : ℝ) : EReal) :=
  (thr_eq (n := 128) (by omega) (by omega)).trans (by norm_num)

theorem one_eq : Ideal.ofBits .f32 0x3F800000#32 = ((1 : ℝ) : EReal) :=
  (thr_eq (n := 127) (by omega) (by omega)).trans (by norm_num)

/-- The exponent field of a small number is zero. -/
theorem isExp_zero {r : ℝ} (h : r < (2 : ℝ) ^ (-126 : ℤ)) : IsExp (r : EReal) 0 := by
  refine ⟨by omega, fun c h1 h2 => ⟨fun h' => ?_, fun h' => by omega⟩⟩
  exfalso
  by_cases hc : c = 255
  · subst hc
    rw [thr_255] at h'
    exact absurd h' (not_le.mpr (EReal.coe_lt_top r))
  · rw [thr_eq h1 (by omega), EReal.coe_le_coe_iff] at h'
    have : (2 : ℝ) ^ (-126 : ℤ) ≤ (2 : ℝ) ^ ((c : ℤ) - 127) := zpow_le_zpow_right₀ (by norm_num) (by omega)
    linarith

/-- The exponent field of a number between two powers of two. -/
theorem isExp_pos {r : ℝ} {n : ℕ} (h254 : n ≤ 254) (h : (2 : ℝ) ^ ((n : ℤ) - 127) ≤ r)
    (h' : r < (2 : ℝ) ^ ((n : ℤ) - 126)) : IsExp (r : EReal) n := by
  refine ⟨h254, fun c h1 h2 => ?_⟩
  by_cases hc : c = 255
  · subst hc
    rw [thr_255]
    exact ⟨fun h => absurd h (not_le.mpr (EReal.coe_lt_top r)), fun h => by omega⟩
  · rw [thr_eq h1 (by omega), EReal.coe_le_coe_iff]
    constructor
    · intro h2
      by_contra hlt
      have : (2 : ℝ) ^ ((n : ℤ) - 126) ≤ (2 : ℝ) ^ ((c : ℤ) - 127) := zpow_le_zpow_right₀ (by norm_num) (by omega)
      linarith
    · intro h2
      exact le_trans (zpow_le_zpow_right₀ (by norm_num) (by omega)) h

theorem exp2_int (k : ℤ) : Ideal.exp2 (((k : ℝ)) : EReal) = (((2 : ℝ) ^ k : ℝ) : EReal) := by
  rw [Ideal.exp2_coe]
  congr 1
  exact Real.rpow_intCast 2 k

theorem refE_small {r : ℝ} (h : r < (2 : ℝ) ^ (-126 : ℤ)) : refE (r : EReal) = ((0 : ℝ) : EReal) := by
  unfold refE
  have h1 : ((r : EReal) < Ideal.ofBits .f32 0x00800000#32) := by
    rw [tiny_eq, EReal.coe_lt_coe_iff]; exact h
  have e1 : Ideal.cmp .olt (r : EReal) (Ideal.ofBits .f32 0x00800000#32) = 1#1 := by
    show BitVec.ofBool (decide _) = _
    rw [decide_eq_true h1]; rfl
  dsimp only
  rw [e1]
  show Scalar.select (BitVec.ofBool (decide (Ideal.ofBits .f32 0x00000000#32 = Ideal.ofBits .f32 0x00000000#32))) _ _ = _
  rw [decide_eq_true rfl]
  show Ideal.ofBits .f32 0x00000000#32 = _
  rw [Ideal.ofBits_zero_f32]; rfl

/-- `⌊log₂ r⌋`. -/
def lg (r : ℝ) : ℤ := ⌊Real.log r / Real.log 2⌋

theorem zpow_lg_le {r : ℝ} (h0 : 0 < r) : (2 : ℝ) ^ lg r ≤ r := by
  have hl : 0 < Real.log 2 := Real.log_pos (by norm_num)
  rw [← Real.log_le_log_iff (by positivity) h0, Real.log_zpow, ← le_div_iff₀ hl]
  exact Int.floor_le _

theorem lt_zpow_lg {r : ℝ} (h0 : 0 < r) : r < (2 : ℝ) ^ (lg r + 1) := by
  have hl : 0 < Real.log 2 := Real.log_pos (by norm_num)
  rw [← Real.log_lt_log_iff h0 (by positivity), Real.log_zpow, ← div_lt_iff₀ hl]
  push_cast
  exact Int.lt_floor_add_one _

theorem refE_big {r : ℝ} (h : (2 : ℝ) ^ (-126 : ℤ) ≤ r) : refE (r : EReal) = (((lg r + 1 : ℤ) : ℝ) : EReal) := by
  unfold refE
  have h0 : 0 < r := lt_of_lt_of_le (by positivity) h
  have e1 : Ideal.cmp .olt (r : EReal) (Ideal.ofBits .f32 0x00800000#32) = 0#1 := by
    show BitVec.ofBool (decide _) = _
    rw [decide_eq_false (by rw [tiny_eq, EReal.coe_lt_coe_iff]; exact not_lt.mpr h)]; rfl
  have e2 : Ideal.cmp .oeq (r : EReal) (Ideal.ofBits .f32 0x00000000#32) = 0#1 := by
    show BitVec.ofBool (decide _) = _
    rw [decide_eq_false (by rw [Ideal.ofBits_zero_f32]; exact_mod_cast h0.ne')]; rfl
  dsimp only
  rw [e1]
  show Scalar.select (Ideal.cmp .oeq (r : EReal) (Ideal.ofBits .f32 0x00000000#32)) _ (Ideal.liftRound Int.floor (Ideal.div (Ideal.log (r : EReal)) _) + _) = _
  rw [e2]
  show Ideal.liftRound Int.floor (Ideal.div (Ideal.log (r : EReal)) _) + _ = _
  rw [two_eq, one_eq, Ideal.log_coe, Ideal.log_coe, if_neg (not_le.mpr h0), if_neg (by norm_num)]
  have hl : Real.log 2 ≠ 0 := (Real.log_pos (by norm_num)).ne'
  have hd : Ideal.div ((Real.log r : ℝ) : EReal) ((Real.log 2 : ℝ) : EReal) = ((Real.log r / Real.log 2 : ℝ) : EReal) := by
    unfold Ideal.div
    rw [if_neg (by exact_mod_cast hl), div_eq_mul_inv, EReal.coe_mul, EReal.coe_inv]
  rw [hd]
  show (((⌊Real.log r / Real.log 2⌋ : ℤ) : ℝ) : EReal) + _ = _
  push_cast
  rfl

theorem ofBits_pow {n : ℕ} (h1 : 1 ≤ n) (h2 : n ≤ 254) (b : BitVec 32) (hb : b.toNat = n * 8388608) :
    Ideal.ofBits .f32 b = (((2 : ℝ) ^ ((n : ℤ) - 127) : ℝ) : EReal) := ieee_pow h1 h2 b hb

theorem scaleBits_toNat {t : EReal} {n : ℕ} (h : IsExp t n) (h1 : 1 ≤ n) :
    (scaleBits t).toNat = (n + 1) * 8388608 := by
  have h254 := h.1
  rw [scaleBits_pos h h1, BitVec.toNat_ofNat]
  omega

theorem invBits_toNat (b : BitVec 32) {n : ℕ} (h2 : n ≤ 252) (hb : b.toNat = (n + 1) * 8388608) :
    ((2130706432#32 : BitVec 32) - b).toNat = (253 - n) * 8388608 := by
  rw [BitVec.toNat_sub, hb, BitVec.toNat_ofNat]
  omega

theorem exp_range {r : ℝ} (h : (2 : ℝ) ^ (-126 : ℤ) ≤ r) (h1 : r < (2 : ℝ) ^ (113 : ℤ)) :
    ∃ n : ℕ, 1 ≤ n ∧ n ≤ 239 ∧ lg r = (n : ℤ) - 127 ∧ IsExp (r : EReal) n := by
  have h0 : 0 < r := lt_of_lt_of_le (by positivity) h
  have l1 := zpow_lg_le h0
  have l2 := lt_zpow_lg h0
  have a1 : -126 ≤ lg r := by
    by_contra hlt
    have : (2 : ℝ) ^ (lg r + 1) ≤ (2 : ℝ) ^ (-126 : ℤ) := zpow_le_zpow_right₀ (by norm_num) (by omega)
    linarith
  have a2 : lg r ≤ 112 := by
    by_contra hlt
    have : (2 : ℝ) ^ (113 : ℤ) ≤ (2 : ℝ) ^ (lg r) := zpow_le_zpow_right₀ (by norm_num) (by omega)
    linarith
  obtain ⟨n, hn⟩ : ∃ n : ℕ, (n : ℤ) = lg r + 127 := ⟨(lg r + 127).toNat, by omega⟩
  have hl : lg r = (n : ℤ) - 127 := by omega
  refine ⟨n, by omega, by omega, hl, ?_⟩
  rw [hl] at l1 l2
  exact isExp_pos (by omega) l1 (by rwa [show (n : ℤ) - 127 + 1 = (n : ℤ) - 126 by ring] at l2)

theorem sc_small {r : ℝ} (h : r < (2 : ℝ) ^ (-126 : ℤ)) :
    sc (r : EReal) = refSc (r : EReal) ∧ inv (r : EReal) = refInv (r : EReal) := by
  have hz := scaleBits_zero (isExp_zero h)
  have hz' : (2130706432#32 : BitVec 32) - scaleBits (r : EReal) = 0x3F800000#32 := by rw [hz]; decide
  have z : Ideal.exp2 ((0 : ℝ) : EReal) = ((1 : ℝ) : EReal) := by rw [Ideal.exp2_coe]; congr 1; exact Real.rpow_zero 2
  unfold sc inv refSc refInv
  rw [hz', hz, refE_small h, Ideal.ofBits_zero_f32, z, show (0 : EReal) - ((0 : ℝ) : EReal) = ((0 : ℝ) : EReal) by simp, z]
  exact ⟨one_eq, one_eq⟩

theorem sc_big {r : ℝ} (h : (2 : ℝ) ^ (-126 : ℤ) ≤ r) (h1 : r < (2 : ℝ) ^ (113 : ℤ)) :
    sc (r : EReal) = refSc (r : EReal) := by
  obtain ⟨n, n1, n2, hl, hexp⟩ := exp_range h h1
  have hb := ofBits_pow (n := n + 1) (by omega) (by omega) _ (scaleBits_toNat hexp n1)
  unfold sc refSc
  rw [hb, refE_big h, hl, exp2_int, show (((n + 1 : ℕ) : ℤ) - 127) = (n : ℤ) - 127 + 1 by push_cast; ring]

theorem inv_big {r : ℝ} (h : (2 : ℝ) ^ (-126 : ℤ) ≤ r) (h1 : r < (2 : ℝ) ^ (113 : ℤ)) :
    inv (r : EReal) = refInv (r : EReal) := by
  obtain ⟨n, n1, n2, hl, hexp⟩ := exp_range h h1
  have hb := ofBits_pow (n := 253 - n) (by omega) (by omega) _ (invBits_toNat _ (by omega) (scaleBits_toNat hexp n1))
  have e : ∀ k : ℤ, (0 : EReal) - (((k : ℤ) : ℝ) : EReal) = (((-k : ℤ) : ℝ) : EReal) := fun k => by
    rw [zero_sub, Int.cast_neg, EReal.coe_neg]
  unfold inv refInv
  rw [hb, refE_big h, hl, Ideal.ofBits_zero_f32, e, exp2_int,
    show (((253 - n : ℕ) : ℤ) - 127) = -((n : ℤ) - 127 + 1) by omega]

/-- The kernel's scale and reciprocal are the reference's, for `r < 2¹¹³`. -/
theorem scale_eq {r : ℝ} (h1 : r < (2 : ℝ) ^ (113 : ℤ)) :
    sc (r : EReal) = refSc (r : EReal) ∧ inv (r : EReal) = refInv (r : EReal) := by
  by_cases h : r < (2 : ℝ) ^ (-126 : ℤ)
  · exact sc_small h
  · exact ⟨sc_big (not_lt.mp h) h1, inv_big (not_lt.mp h) h1⟩

end Cert.DxMath

end
-- ==== Proof.DxQuant.lean ====
module

public import proofs.«01_k».proof.Proof.Gen.KernelIdeal.Skeleton
public import proofs.«01_k».proof.Proof.DxMath
public import Idealize.ShloMosaic.Lib.Pointwise
public import Idealize.ShloMosaic.Lib.Tactic

/-! The quantisation of one group of 128 columns, as the body's eight unrolled copies compute it. The copies are cut
into printed functions at different places; each is the same text, so one value serves them all. -/

@[expose] public section

noncomputable section

namespace Cert.KernelIdeal.Dx

open Cert.KernelIdeal Cert.KernelIdeal.Gen
open Idealize.ShloMosaic

/-- The columns of one group. -/
abbrev Cols := Vec Ideal S1024x128 .bf16

/-- One step of the search for the exponent field, on every element. -/
def vstep (T : FVec Ideal S1024x128 .f32) (C E : IVec S1024x128 32) : IVec S1024x128 32 :=
  select (cmpf .oge T (bitcastToFloat .f32 (addi E C))) (addi E C) E

/-- The bits of the scale, from the exponent field. -/
def vbits (Z M O C E : IVec S1024x128 32) : IVec S1024x128 32 :=
  select (ori (cmpi .eq E Z) (cmpi .eq E M)) O (addi E C)

theorem fold_step (T : FVec Ideal S1024x128 .f32) (C E : IVec S1024x128 32) :
    select (cmpf .oge T (bitcastToFloat .f32 (addi E C))) (addi E C) E = vstep T C E := rfl

theorem fold_bits (Z M O C E : IVec S1024x128 32) :
    select (ori (cmpi .eq E Z) (cmpi .eq E M)) O (addi E C) = vbits Z M O C E := rfl

/-- `max |d| / 57344` of each row, along the lanes. -/
def gT (d : Cols) : FVec Ideal S1024x128 .f32 :=
  mulf (broadcastTo S1024x128 (shapeCast S1024x1 (multiReduction .maximumf [1] S1024
    (extf .f32 (absf d) bitsLt_bf16_f32) 0xFF800000#32 reduces_S1024x128_S1024 (.inl rfl) rfl)
    shapeCasts_S1024_S1024x1) broadcasts_S1024x1_S1024x128)
    (broadcast S1024x128 (Scalar.ofBits .f32 0x37924925#32))

theorem fold_T (d : Cols) (h1 : FTy.bf16.bits < FTy.f32.bits) (h2 : S1024x128.Reduces [1] S1024) (h3) (h4) (h5 : S1024.ShapeCasts S1024x1)
    (h6 : S1024x1.Broadcasts S1024x128) :
    mulf (broadcastTo S1024x128 (shapeCast S1024x1 (multiReduction .maximumf [1] S1024
      (extf .f32 (absf d) h1) 0xFF800000#32 h2 h3 h4) h5) h6)
      (broadcast S1024x128 (FloatOps.ofBits (F := Ideal) .f32 0x37924925#32)) = gT d := rfl

/-- The bits of each row's scale. -/
def gBits (d : Cols) : IVec S1024x128 32 :=
  vbits (broadcast S1024x128 0#32) (broadcast S1024x128 2139095040#32) (broadcast S1024x128 1065353216#32)
    (broadcast S1024x128 8388608#32)
    (vstep (gT d) (broadcast S1024x128 8388608#32) (vstep (gT d) (broadcast S1024x128 16777216#32)
    (vstep (gT d) (broadcast S1024x128 33554432#32) (vstep (gT d) (broadcast S1024x128 67108864#32)
    (vstep (gT d) (broadcast S1024x128 134217728#32) (vstep (gT d) (broadcast S1024x128 268435456#32)
    (vstep (gT d) (broadcast S1024x128 536870912#32) (vstep (gT d) (broadcast S1024x128 1073741824#32)
    (broadcast S1024x128 0#32)))))))))

/-- The scale of each row of the group, along the lanes. -/
def gSc (d : Cols) : FVec Ideal S1024x128 .f32 := bitcastToFloat .f32 (gBits d)

/-- The group's codes. -/
def gCode (d : Cols) : FVec Ideal S1024x128 .fp8e5m2 :=
  truncf .fp8e5m2 (minimumf (broadcast S1024x128 (Scalar.truncf .bf16 bitsLt_bf16_f32 (Scalar.ofBits (F := Ideal) .f32 0x47600000#32)))
    (maximumf (broadcast S1024x128 (Scalar.truncf .bf16 bitsLt_bf16_f32 (Scalar.ofBits (F := Ideal) .f32 0xC7600000#32)))
      (mulf d (truncf .bf16 (bitcastToFloat .f32 (subi (broadcast S1024x128 2130706432#32) (gBits d))) bitsLt_bf16_f32))))
    bitsLt_fp8e5m2_bf16

/-- The group's dequantised values. -/
def gDq (d : Cols) : FVec Ideal S1024x128 .bf16 :=
  mulf (extf .bf16 (gCode d) bitsLt_fp8e5m2_bf16) (truncf .bf16 (gSc d) bitsLt_bf16_f32)

/-- The scales row with the group's scale put into lane `8 * arg1 + b`. -/
def gSel (arg1 : BitVec 32) (b : BitVec 32) (v3 : IVec S1024x128 32) (prev : FVec Ideal S1024x128 .f32) (d : Cols) :
    FVec Ideal S1024x128 .f32 :=
  select (cmpi .eq v3 (broadcast S1024x128 (Scalar.addi (Scalar.muli arg1 8#32) b))) (gSc d) prev

/-- `max |d| / 57344` over a row's lanes. -/
def tRow (f : Fin 128 → EReal) : EReal :=
  (Finset.univ.fold max (Ideal.ofBits .f32 0xFF800000#32) fun k : Fin 128 => FloatOps.absf (F := Ideal) (φ := .bf16) (f k))
    * Ideal.ofBits .f32 0x37924925#32

/-- The code of `x` at the reciprocal `v`. -/
def codeOf (x v : EReal) : EReal := min (Ideal.ofBits .f32 0x47600000#32) (max (Ideal.ofBits .f32 0xC7600000#32) (x * v))

theorem gT_apply (d : Cols) (i : Fin 1024) (l : Fin 128) : gT d (ix2 i l) = tRow fun k => d (ix2 i k) := by
  unfold gT tRow
  simp only [pointwise]
  congr 2

theorem bc_apply {α : Type} (c : α) (j : S1024x128.Idx) : broadcast S1024x128 c j = c := rfl

theorem vstep_apply (T : FVec Ideal S1024x128 .f32) (C E : IVec S1024x128 32) (j : S1024x128.Idx) (t : EReal)
    (c e : BitVec 32) (hT : T j = t) (hC : C j = c) (hE : E j = e) : vstep T C E j = DxMath.step t c e := by
  subst hT hC hE; rfl

theorem vbits_apply (Z M O C E : IVec S1024x128 32) (j : S1024x128.Idx) (z m o c e : BitVec 32) (hZ : Z j = z)
    (hM : M j = m) (hO : O j = o) (hC : C j = c) (hE : E j = e) :
    vbits Z M O C E j = Scalar.select (IntOp.ori (IntOp.cmpi .eq e z) (IntOp.cmpi .eq e m)) o (e + c) := by
  subst hZ hM hO hC hE; rfl

theorem gBits_apply (d : Cols) (j : S1024x128.Idx) : gBits d j = DxMath.scaleBits (gT d j) :=
  vbits_apply _ _ _ _ _ _ _ _ _ _ _ (bc_apply _ _) (bc_apply _ _) (bc_apply _ _) (bc_apply _ _)
    (vstep_apply _ _ _ _ _ _ _ rfl (bc_apply _ _) <| vstep_apply _ _ _ _ _ _ _ rfl (bc_apply _ _) <|
     vstep_apply _ _ _ _ _ _ _ rfl (bc_apply _ _) <| vstep_apply _ _ _ _ _ _ _ rfl (bc_apply _ _) <|
     vstep_apply _ _ _ _ _ _ _ rfl (bc_apply _ _) <| vstep_apply _ _ _ _ _ _ _ rfl (bc_apply _ _) <|
     vstep_apply _ _ _ _ _ _ _ rfl (bc_apply _ _) <| vstep_apply _ _ _ _ _ _ _ rfl (bc_apply _ _) (bc_apply _ _))

theorem bitcast_apply (x : IVec S1024x128 32) (j : S1024x128.Idx) (b : BitVec 32) (h : x j = b) :
    bitcastToFloat (F := Ideal) .f32 x j = Ideal.ofBits .f32 b := by
  subst h; rfl

theorem subi_at (x y : IVec S1024x128 32) (j : S1024x128.Idx) (a b : BitVec 32) (hx : x j = a) (hy : y j = b) :
    subi x y j = a - b := by
  subst hx hy; rfl

theorem code_at (A B x : FVec Ideal S1024x128 .bf16) (v : FVec Ideal S1024x128 .f32) (h1 h2) (j : S1024x128.Idx)
    (a b w : EReal) (hA : A j = a) (hB : B j = b) (hv : v j = w) :
    truncf .fp8e5m2 (minimumf A (maximumf B (mulf x (truncf .bf16 v h1)))) h2 j = min a (max b ((show EReal from x j) * w)) := by
  subst hA hB hv; rfl

theorem const_at (b : BitVec 32) (h) (j : S1024x128.Idx) :
    broadcast S1024x128 (Scalar.truncf .bf16 h (Scalar.ofBits (F := Ideal) .f32 b)) j = Ideal.ofBits .f32 b := rfl

theorem gSc_apply (d : Cols) (j : S1024x128.Idx) : gSc d j = DxMath.sc (gT d j) :=
  bitcast_apply _ _ _ (gBits_apply d j)

theorem gCode_apply (d : Cols) (j : S1024x128.Idx) : gCode d j = codeOf (d j) (DxMath.inv (gT d j)) :=
  code_at _ _ _ _ _ _ _ _ _ _ (const_at _ _ _) (const_at _ _ _)
    (bitcast_apply _ _ _ (subi_at _ _ _ _ _ (bc_apply _ _) (gBits_apply d j)))

theorem mul_at (x : FVec Ideal S1024x128 .fp8e5m2) (y : FVec Ideal S1024x128 .f32) (h1 h2) (j : S1024x128.Idx) :
    mulf (extf .bf16 x h1) (truncf .bf16 y h2) j = (show EReal from x j) * (show EReal from y j) := rfl

theorem gDq_apply (d : Cols) (j : S1024x128.Idx) :
    gDq d j = codeOf (d j) (DxMath.inv (gT d j)) * DxMath.sc (gT d j) := by
  unfold gDq
  rw [mul_at, gCode_apply, gSc_apply]

theorem sel_at (x y : IVec S1024x128 32) (s p : FVec Ideal S1024x128 .f32) (j : S1024x128.Idx) (b : BitVec 32)
    (w : EReal) (hy : y j = b) (hs : s j = w) : select (cmpi .eq x y) s p j = if x j = b then w else p j := by
  subst hy hs
  show Scalar.select (BitVec.ofBool (x j == y j)) (s j) (p j) = _
  by_cases h : x j = y j
  · rw [if_pos h, beq_iff_eq.mpr h]; rfl
  · rw [if_neg h, beq_eq_false_iff_ne.mpr h]; rfl

theorem gSel_apply (a b : BitVec 32) (v3 : IVec S1024x128 32) (p : FVec Ideal S1024x128 .f32) (d : Cols) (j : S1024x128.Idx) :
    gSel a b v3 p d j = if v3 j = Scalar.addi (Scalar.muli a 8#32) b then DxMath.sc (gT d j) else p j :=
  sel_at _ _ _ _ _ _ _ (bc_apply _ _) (gSc_apply d j)

end Cert.KernelIdeal.Dx

end
-- ==== Proof.DxGrpA.lean ====
module

public import proofs.«01_k».proof.Proof.Gen.KernelIdeal.Skeleton
public import proofs.«01_k».proof.Proof.DxQuant
public import Idealize.ShloMosaic.Lib.Pointwise
public import Idealize.ShloMosaic.Lib.Tactic

/-! The quantisation of one group of 128 columns, as the body's eight unrolled copies compute it. The copies are cut
into printed functions at different places; each is the same text, so one value serves them all. -/

@[expose] public section

noncomputable section

namespace Cert.KernelIdeal.Dx

open Cert.KernelIdeal Cert.KernelIdeal.Gen
open Idealize.ShloMosaic

section
variable (d : Cols) (a : BitVec 32) (v3 : IVec S1024x128 32) (p : FVec Ideal S1024x128 .f32)

theorem code0 : k0_pay13 (F := Ideal) (k0_pay7 d) (k0_pay8 d) (k0_pay9 d) 33554432#32 = gCode d := by
  simp only [k0_pay7, k0_pay8, k0_pay9, k0_pay10, k0_pay11, k0_pay12, k0_pay13, k0_pay14, shapeCast_self, fold_step, fold_bits, fold_T]
  rfl
theorem dq0 : k0_pay14 (F := Ideal) (k0_pay7 d) (k0_pay8 d) (k0_pay9 d) 33554432#32 = gDq d := by
  simp only [k0_pay7, k0_pay8, k0_pay9, k0_pay10, k0_pay11, k0_pay12, k0_pay13, k0_pay14, shapeCast_self, fold_step, fold_bits, fold_T]
  rfl
theorem sel0 : k0_pay12 (F := Ideal) a v3 p (k0_pay8 d) (k0_pay9 d) 33554432#32 = gSel a 0#32 v3 p d := by
  simp only [k0_pay7, k0_pay8, k0_pay9, k0_pay10, k0_pay11, k0_pay12, k0_pay13, k0_pay14, shapeCast_self, fold_step, fold_bits, fold_T]
  rfl

theorem code1 : k0_pay23 (F := Ideal) (k0_pay15 d) (k0_pay16 d) (k0_pay17 d) (k0_pay18 d) (k0_pay19 d) = gCode d := by
  simp only [k0_pay15, k0_pay16, k0_pay17, k0_pay18, k0_pay19, k0_pay20, k0_pay21, k0_pay22, k0_pay23, k0_pay24, shapeCast_self, fold_step, fold_bits, fold_T]
  rfl
theorem dq1 : k0_pay24 (F := Ideal) (k0_pay15 d) (k0_pay16 d) (k0_pay17 d) (k0_pay18 d) (k0_pay19 d) = gDq d := by
  simp only [k0_pay15, k0_pay16, k0_pay17, k0_pay18, k0_pay19, k0_pay20, k0_pay21, k0_pay22, k0_pay23, k0_pay24, shapeCast_self, fold_step, fold_bits, fold_T]
  rfl
theorem sel1 : k0_pay22 (F := Ideal) a v3 p (k0_pay16 d) (k0_pay17 d) (k0_pay18 d) (k0_pay19 d) = gSel a 1#32 v3 p d := by
  simp only [k0_pay15, k0_pay16, k0_pay17, k0_pay18, k0_pay19, k0_pay20, k0_pay21, k0_pay22, k0_pay23, k0_pay24, shapeCast_self, fold_step, fold_bits, fold_T]
  rfl

theorem code2 : k0_pay31 (F := Ideal) (k0_pay25 d) (k0_pay27 (k0_pay26 d)) 0#32 = gCode d := by
  simp only [k0_pay25, k0_pay26, k0_pay27, k0_pay28, k0_pay29, k0_pay30, k0_pay31, k0_pay32, shapeCast_self, fold_step, fold_bits, fold_T]
  rfl
theorem dq2 : k0_pay32 (F := Ideal) (k0_pay25 d) (k0_pay27 (k0_pay26 d)) 0#32 = gDq d := by
  simp only [k0_pay25, k0_pay26, k0_pay27, k0_pay28, k0_pay29, k0_pay30, k0_pay31, k0_pay32, shapeCast_self, fold_step, fold_bits, fold_T]
  rfl
theorem sel2 : k0_pay30 (F := Ideal) a v3 p (k0_pay27 (k0_pay26 d)) 0#32 = gSel a 2#32 v3 p d := by
  simp only [k0_pay25, k0_pay26, k0_pay27, k0_pay28, k0_pay29, k0_pay30, k0_pay31, k0_pay32, shapeCast_self, fold_step, fold_bits, fold_T]
  rfl

theorem code3 : k0_pay41 (F := Ideal) (k0_pay33 d) (k0_pay36 (k0_pay34 d)) (k0_pay37 (k0_pay34 d)) = gCode d := by
  simp only [k0_pay33, k0_pay34, k0_pay35, k0_pay36, k0_pay37, k0_pay38, k0_pay39, k0_pay40, k0_pay41, k0_pay42, shapeCast_self, fold_step, fold_bits, fold_T]
  rfl
theorem dq3 : k0_pay42 (F := Ideal) (k0_pay33 d) (k0_pay36 (k0_pay34 d)) (k0_pay37 (k0_pay34 d)) = gDq d := by
  simp only [k0_pay33, k0_pay34, k0_pay35, k0_pay36, k0_pay37, k0_pay38, k0_pay39, k0_pay40, k0_pay41, k0_pay42, shapeCast_self, fold_step, fold_bits, fold_T]
  rfl
theorem sel3 : k0_pay40 (F := Ideal) a v3 p (k0_pay36 (k0_pay34 d)) (k0_pay37 (k0_pay34 d)) = gSel a 3#32 v3 p d := by
  simp only [k0_pay33, k0_pay34, k0_pay35, k0_pay36, k0_pay37, k0_pay38, k0_pay39, k0_pay40, k0_pay41, k0_pay42, shapeCast_self, fold_step, fold_bits, fold_T]
  rfl

end

end Cert.KernelIdeal.Dx

end
-- ==== Proof.DxGrpB.lean ====
module

public import proofs.«01_k».proof.Proof.Gen.KernelIdeal.Skeleton
public import proofs.«01_k».proof.Proof.DxQuant
public import Idealize.ShloMosaic.Lib.Pointwise
public import Idealize.ShloMosaic.Lib.Tactic

/-! The quantisation of one group of 128 columns, as the body's eight unrolled copies compute it. The copies are cut
into printed functions at different places; each is the same text, so one value serves them all. -/

@[expose] public section

noncomputable section

namespace Cert.KernelIdeal.Dx

open Cert.KernelIdeal Cert.KernelIdeal.Gen
open Idealize.ShloMosaic

section
variable (d : Cols) (a : BitVec 32) (v3 : IVec S1024x128 32) (p : FVec Ideal S1024x128 .f32)

theorem code4 : k0_pay50 (F := Ideal) (k0_pay43 d) (k0_pay48 (k0_pay44 d) (k0_pay45 d) 536870912#32) = gCode d := by
  simp only [k0_pay43, k0_pay44, k0_pay45, k0_pay46, k0_pay47, k0_pay48, k0_pay49, k0_pay50, k0_pay51, shapeCast_self, fold_step, fold_bits, fold_T]
  rfl
theorem dq4 : k0_pay51 (F := Ideal) (k0_pay43 d) (k0_pay47 (k0_pay44 d) (k0_pay45 d) 536870912#32)
    (k0_pay48 (k0_pay44 d) (k0_pay45 d) 536870912#32) = gDq d := by
  simp only [k0_pay43, k0_pay44, k0_pay45, k0_pay46, k0_pay47, k0_pay48, k0_pay49, k0_pay50, k0_pay51, shapeCast_self, fold_step, fold_bits, fold_T]
  rfl
theorem sel4 : k0_pay49 (F := Ideal) a v3 p (k0_pay47 (k0_pay44 d) (k0_pay45 d) 536870912#32) 8#32 = gSel a 4#32 v3 p d := by
  simp only [k0_pay43, k0_pay44, k0_pay45, k0_pay46, k0_pay47, k0_pay48, k0_pay49, k0_pay50, k0_pay51, shapeCast_self, fold_step, fold_bits, fold_T]
  rfl

theorem code5 : k0_pay61 (F := Ideal) (k0_pay60 (k0_pay52 d) (k0_pay53 d) (k0_pay54 d) (k0_pay55 d) (k0_pay56 d))
    (FloatOps.ofBits .f32 3344957440#32) = gCode d := by
  simp only [k0_pay52, k0_pay53, k0_pay54, k0_pay55, k0_pay56, k0_pay57, k0_pay58, k0_pay59, k0_pay60, k0_pay61, k0_pay62, shapeCast_self, fold_step, fold_bits, fold_T]
  rfl
theorem dq5 : k0_pay62 (F := Ideal) (k0_pay58 (k0_pay53 d) (k0_pay54 d) (k0_pay55 d) (k0_pay56 d))
    (k0_pay60 (k0_pay52 d) (k0_pay53 d) (k0_pay54 d) (k0_pay55 d) (k0_pay56 d))
    (FloatOps.ofBits .f32 3344957440#32) = gDq d := by
  simp only [k0_pay52, k0_pay53, k0_pay54, k0_pay55, k0_pay56, k0_pay57, k0_pay58, k0_pay59, k0_pay60, k0_pay61, k0_pay62, shapeCast_self, fold_step, fold_bits, fold_T]
  rfl
theorem sel5 : k0_pay59 (F := Ideal) a v3 p (k0_pay53 d) (k0_pay54 d) (k0_pay55 d) (k0_pay56 d) = gSel a 5#32 v3 p d := by
  simp only [k0_pay52, k0_pay53, k0_pay54, k0_pay55, k0_pay56, k0_pay57, k0_pay58, k0_pay59, k0_pay60, k0_pay61, k0_pay62, shapeCast_self, fold_step, fold_bits, fold_T]
  rfl

theorem code6 : k0_pay69 (F := Ideal) (k0_pay63 d) (k0_pay64 d) (k0_pay65 d) 67108864#32 = gCode d := by
  simp only [k0_pay63, k0_pay64, k0_pay65, k0_pay66, k0_pay67, k0_pay68, k0_pay69, k0_pay70, shapeCast_self, fold_step, fold_bits, fold_T]
  rfl
theorem dq6 : k0_pay70 (F := Ideal) (k0_pay67 (k0_pay64 d) (k0_pay65 d) 67108864#32)
    (k0_pay69 (k0_pay63 d) (k0_pay64 d) (k0_pay65 d) 67108864#32) = gDq d := by
  simp only [k0_pay63, k0_pay64, k0_pay65, k0_pay66, k0_pay67, k0_pay68, k0_pay69, k0_pay70, shapeCast_self, fold_step, fold_bits, fold_T]
  rfl
theorem sel6 : k0_pay68 (F := Ideal) a v3 p (k0_pay64 d) (k0_pay65 d) 67108864#32 = gSel a 6#32 v3 p d := by
  simp only [k0_pay63, k0_pay64, k0_pay65, k0_pay66, k0_pay67, k0_pay68, k0_pay69, k0_pay70, shapeCast_self, fold_step, fold_bits, fold_T]
  rfl

theorem code7 : k0_pay79 (F := Ideal) (k0_pay71 d) (k0_pay72 d) (k0_pay73 d) (k0_pay74 d) (k0_pay75 d) = gCode d := by
  simp only [k0_pay71, k0_pay72, k0_pay73, k0_pay74, k0_pay75, k0_pay76, k0_pay77, k0_pay78, k0_pay79, k0_pay80, shapeCast_self, fold_step, fold_bits, fold_T]
  rfl
theorem dq7 : k0_pay80 (F := Ideal) (k0_pay71 d) (k0_pay72 d) (k0_pay73 d) (k0_pay74 d) (k0_pay75 d) = gDq d := by
  simp only [k0_pay71, k0_pay72, k0_pay73, k0_pay74, k0_pay75, k0_pay76, k0_pay77, k0_pay78, k0_pay79, k0_pay80, shapeCast_self, fold_step, fold_bits, fold_T]
  rfl
theorem sel7 : k0_pay78 (F := Ideal) a v3 p (k0_pay72 d) (k0_pay73 d) (k0_pay74 d) (k0_pay75 d) = gSel a 7#32 v3 p d := by
  simp only [k0_pay71, k0_pay72, k0_pay73, k0_pay74, k0_pay75, k0_pay76, k0_pay77, k0_pay78, k0_pay79, k0_pay80, shapeCast_self, fold_step, fold_bits, fold_T]
  rfl

end

end Cert.KernelIdeal.Dx

end
-- ==== Proof.DxCodes.lean ====
module

public import proofs.«01_k».proof.Proof.DxQuant
public import proofs.«01_k».proof.Proof.DxGrpA
public import proofs.«01_k».proof.Proof.DxGrpB
public import proofs.«01_k».proof.Proof.DxFrame
public import Idealize.ShloMosaic.Lib.Pipeline.Value
public import Idealize.ShloMosaic.Lib.Tactic

/-! What a point's body leaves in the codes' and the dequantised values' staging buffers: eight groups of 128 columns, each
quantised by its own row maxima. -/

@[expose] public section

set_option maxRecDepth 16384

noncomputable section

namespace Cert.KernelIdeal.Dx

open Cert.KernelIdeal.Gen
open Idealize.ShloMosaic Idealize.ShloMosaic.TcCoe Idealize.SL.Sem
open Idealize.ShloMosaic.Pipeline (Dat)

/-- Row `y 0`'s scaled maximum over the group of 128 columns that holds column `y 1`. -/
def tAt (x1 : Vec Ideal S1024x1024 .bf16) (y : S1024x1024.Idx) : EReal :=
  tRow fun k => x1 (ix2 (y 0) ⟨128 * ((y 1).val / 128) + k.val, by have h1 : (y 1).val < 1024 := (y 1).isLt; have := k.isLt; show _ < 1024; omega⟩)

/-- The code at `y`. -/
def codeAt (x1 : Vec Ideal S1024x1024 .bf16) (y : S1024x1024.Idx) : EReal := codeOf (x1 y) (DxMath.inv (tAt x1 y))

/-- The dequantised value at `y`. -/
def dqAt (x1 : Vec Ideal S1024x1024 .bf16) (y : S1024x1024.Idx) : EReal := codeAt x1 y * DxMath.sc (tAt x1 y)

theorem gT_piece (x1 : Vec Ideal S1024x1024 .bf16) (b off : ℕ) (hoff : off = 128 * b) (inb) (x : S1024x128.Idx) :
    gT (View.ld (Val := Elt Ideal) (S := S1024x1024) x1 (Rect.unit (s := S1024x1024) ![0, off] S1024x128.size inb)) x =
      tAt x1 ((Rect.unit (s := S1024x1024) ![0, off] S1024x128.size inb).emb x) := by
  subst hoff
  have hx : x = ix2 (x 0) (x 1) := by funext a; match a with | ⟨0, _⟩ => rfl | ⟨1, _⟩ => rfl
  refine (congrArg (gT _) hx).trans ((gT_apply _ (x 0) (x 1)).trans ?_)
  unfold tAt
  refine congrArg tRow (funext fun k => congrArg x1 (funext fun a => ?_))
  match a with
  | ⟨0, _⟩ => rfl
  | ⟨1, _⟩ =>
    apply Fin.ext
    show 128 * b + 1 * k.val = 128 * ((128 * b + 1 * (x 1).val) / 128) + k.val
    have h2 : (x 1).val < 128 := (x 1).isLt
    omega

theorem code_piece (x1 : Vec Ideal S1024x1024 .bf16) (b off : ℕ) (hoff : off = 128 * b) (inb) (x : S1024x128.Idx) :
    gCode (View.ld (Val := Elt Ideal) (S := S1024x1024) x1 (Rect.unit (s := S1024x1024) ![0, off] S1024x128.size inb)) x =
      codeAt x1 ((Rect.unit (s := S1024x1024) ![0, off] S1024x128.size inb).emb x) := by
  rw [gCode_apply, gT_piece x1 b off hoff inb x]; rfl

theorem dq_piece (x1 : Vec Ideal S1024x1024 .bf16) (b off : ℕ) (hoff : off = 128 * b) (inb) (x : S1024x128.Idx) :
    gDq (View.ld (Val := Elt Ideal) (S := S1024x1024) x1 (Rect.unit (s := S1024x1024) ![0, off] S1024x128.size inb)) x =
      dqAt x1 ((Rect.unit (s := S1024x1024) ![0, off] S1024x128.size inb).emb x) := by
  rw [gDq_apply, gT_piece x1 b off hoff inb x]; rfl

theorem outA6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    out0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 = codeAt x1 := by
  have key : ∀ p ∈ (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.1, ∀ x : p.1.shape.Idx, p.2 x = codeAt x1 (p.1.emb x) := by
    unfold kernelRun0_A
    dsimp only
    sl_unfold_words
    simp only [View.readAt_eq_ld, harg3.read_unread, List.forall_mem_cons, List.not_mem_nil, IsEmpty.forall_iff, implies_true, and_true]
    refine ⟨fun x => (congrFun (code7 _) x).trans (code_piece x1 7 896 rfl _ x), fun x => (congrFun (code6 _) x).trans (code_piece x1 6 768 rfl _ x), fun x => (congrFun (code5 _) x).trans (code_piece x1 5 640 rfl _ x), fun x => (congrFun (code4 _) x).trans (code_piece x1 4 512 rfl _ x), fun x => (congrFun (code3 _) x).trans (code_piece x1 3 384 rfl _ x), fun x => (congrFun (code2 _) x).trans (code_piece x1 2 256 rfl _ x), fun x => (congrFun (code1 _) x).trans (code_piece x1 1 128 rfl _ x), fun x => (congrFun (code0 _) x).trans (code_piece x1 0 0 rfl _ x)⟩
  unfold out0_A_6
  funext y
  exact View.read_writes_apply_of_pieces VO0_6 VO0_6.junk (codeAt x1) _ key y (cover0_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 y)

theorem outA8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 = dqAt x1 := by
  have key : ∀ p ∈ (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.2.1, ∀ x : p.1.shape.Idx, p.2 x = dqAt x1 (p.1.emb x) := by
    unfold kernelRun0_A
    dsimp only
    sl_unfold_words
    simp only [View.readAt_eq_ld, harg3.read_unread, List.forall_mem_cons, List.not_mem_nil, IsEmpty.forall_iff, implies_true, and_true]
    refine ⟨fun x => (congrFun (dq7 _) x).trans (dq_piece x1 7 896 rfl _ x), fun x => (congrFun (dq6 _) x).trans (dq_piece x1 6 768 rfl _ x), fun x => (congrFun (dq5 _) x).trans (dq_piece x1 5 640 rfl _ x), fun x => (congrFun (dq4 _) x).trans (dq_piece x1 4 512 rfl _ x), fun x => (congrFun (dq3 _) x).trans (dq_piece x1 3 384 rfl _ x), fun x => (congrFun (dq2 _) x).trans (dq_piece x1 2 256 rfl _ x), fun x => (congrFun (dq1 _) x).trans (dq_piece x1 1 128 rfl _ x), fun x => (congrFun (dq0 _) x).trans (dq_piece x1 0 0 rfl _ x)⟩
  unfold out0_A_8
  funext y
  exact View.read_writes_apply_of_pieces VO0_8 VO0_8.junk (dqAt x1) _ key y (cover0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 y)

theorem outB6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = codeAt x1 := by
  have key : ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, ∀ x : p.1.shape.Idx, p.2 x = codeAt x1 (p.1.emb x) := by
    unfold kernelRun0_B
    dsimp only
    sl_unfold_words
    simp only [View.readAt_eq_ld, harg3.read_unread, List.forall_mem_cons, List.not_mem_nil, IsEmpty.forall_iff, implies_true, and_true]
    refine ⟨fun x => (congrFun (code7 _) x).trans (code_piece x1 7 896 rfl _ x), fun x => (congrFun (code6 _) x).trans (code_piece x1 6 768 rfl _ x), fun x => (congrFun (code5 _) x).trans (code_piece x1 5 640 rfl _ x), fun x => (congrFun (code4 _) x).trans (code_piece x1 4 512 rfl _ x), fun x => (congrFun (code3 _) x).trans (code_piece x1 3 384 rfl _ x), fun x => (congrFun (code2 _) x).trans (code_piece x1 2 256 rfl _ x), fun x => (congrFun (code1 _) x).trans (code_piece x1 1 128 rfl _ x), fun x => (congrFun (code0 _) x).trans (code_piece x1 0 0 rfl _ x)⟩
  unfold out0_B_6
  funext y
  exact View.read_writes_apply_of_pieces VO0_6 VO0_6.junk (codeAt x1) _ key y (cover0_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 y)

theorem outB8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = dqAt x1 := by
  have key : ∀ p ∈ (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, ∀ x : p.1.shape.Idx, p.2 x = dqAt x1 (p.1.emb x) := by
    unfold kernelRun0_B
    dsimp only
    sl_unfold_words
    simp only [View.readAt_eq_ld, harg3.read_unread, List.forall_mem_cons, List.not_mem_nil, IsEmpty.forall_iff, implies_true, and_true]
    refine ⟨fun x => (congrFun (dq7 _) x).trans (dq_piece x1 7 896 rfl _ x), fun x => (congrFun (dq6 _) x).trans (dq_piece x1 6 768 rfl _ x), fun x => (congrFun (dq5 _) x).trans (dq_piece x1 5 640 rfl _ x), fun x => (congrFun (dq4 _) x).trans (dq_piece x1 4 512 rfl _ x), fun x => (congrFun (dq3 _) x).trans (dq_piece x1 3 384 rfl _ x), fun x => (congrFun (dq2 _) x).trans (dq_piece x1 2 256 rfl _ x), fun x => (congrFun (dq1 _) x).trans (dq_piece x1 1 128 rfl _ x), fun x => (congrFun (dq0 _) x).trans (dq_piece x1 0 0 rfl _ x)⟩
  unfold out0_B_8
  funext y
  exact View.read_writes_apply_of_pieces VO0_8 VO0_8.junk (dqAt x1) _ key y (cover0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 y)

theorem outC6 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = codeAt x1 := by
  have key : ∀ p ∈ (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.1, ∀ x : p.1.shape.Idx, p.2 x = codeAt x1 (p.1.emb x) := by
    unfold kernelRun0_C
    dsimp only
    sl_unfold_words
    simp only [View.readAt_eq_ld, harg3.read_unread, List.forall_mem_cons, List.not_mem_nil, IsEmpty.forall_iff, implies_true, and_true]
    refine ⟨fun x => (congrFun (code7 _) x).trans (code_piece x1 7 896 rfl _ x), fun x => (congrFun (code6 _) x).trans (code_piece x1 6 768 rfl _ x), fun x => (congrFun (code5 _) x).trans (code_piece x1 5 640 rfl _ x), fun x => (congrFun (code4 _) x).trans (code_piece x1 4 512 rfl _ x), fun x => (congrFun (code3 _) x).trans (code_piece x1 3 384 rfl _ x), fun x => (congrFun (code2 _) x).trans (code_piece x1 2 256 rfl _ x), fun x => (congrFun (code1 _) x).trans (code_piece x1 1 128 rfl _ x), fun x => (congrFun (code0 _) x).trans (code_piece x1 0 0 rfl _ x)⟩
  unfold out0_C_6
  funext y
  exact View.read_writes_apply_of_pieces VO0_6 VO0_6.junk (codeAt x1) _ key y (cover0_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 y)

theorem outC8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = dqAt x1 := by
  have key : ∀ p ∈ (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1, ∀ x : p.1.shape.Idx, p.2 x = dqAt x1 (p.1.emb x) := by
    unfold kernelRun0_C
    dsimp only
    sl_unfold_words
    simp only [View.readAt_eq_ld, harg3.read_unread, List.forall_mem_cons, List.not_mem_nil, IsEmpty.forall_iff, implies_true, and_true]
    refine ⟨fun x => (congrFun (dq7 _) x).trans (dq_piece x1 7 896 rfl _ x), fun x => (congrFun (dq6 _) x).trans (dq_piece x1 6 768 rfl _ x), fun x => (congrFun (dq5 _) x).trans (dq_piece x1 5 640 rfl _ x), fun x => (congrFun (dq4 _) x).trans (dq_piece x1 4 512 rfl _ x), fun x => (congrFun (dq3 _) x).trans (dq_piece x1 3 384 rfl _ x), fun x => (congrFun (dq2 _) x).trans (dq_piece x1 2 256 rfl _ x), fun x => (congrFun (dq1 _) x).trans (dq_piece x1 1 128 rfl _ x), fun x => (congrFun (dq0 _) x).trans (dq_piece x1 0 0 rfl _ x)⟩
  unfold out0_C_8
  funext y
  exact View.read_writes_apply_of_pieces VO0_8 VO0_8.junk (dqAt x1) _ key y (cover0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 y)

end Cert.KernelIdeal.Dx

end
-- ==== Proof.DxBody.lean ====
module

public import proofs.«01_k».proof.Proof.DxCodes

/-! What a point's body leaves in the scales' and the transposed activations' staging buffers, in the accumulator and, at a
tile's last chunk, in the result's. -/

@[expose] public section

set_option maxRecDepth 16384

noncomputable section

namespace Cert.KernelIdeal.Dx

open Cert.KernelIdeal.Gen
open Idealize.ShloMosaic Idealize.ShloMosaic.TcCoe Idealize.SL.Sem
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl

/-- Row `r`'s scaled maximum over group `b` of the block's columns. -/
def grp (x1 : Vec Ideal S1024x1024 .bf16) (r : Fin 1024) (b : ℕ) : EReal :=
  tRow fun k => x1 (ix2 r ⟨(128 * b + k.val) % 1024, Nat.mod_lt _ (by decide)⟩)

theorem tAt_grp (x1 : Vec Ideal S1024x1024 .bf16) (y : S1024x1024.Idx) : tAt x1 y = grp x1 (y 0) ((y 1).val / 128) := by
  unfold tAt grp
  refine congrArg tRow (funext fun k => congrArg x1 (funext fun a => ?_))
  match a with
  | ⟨0, _⟩ => rfl
  | ⟨1, _⟩ =>
    apply Fin.ext
    show 128 * ((y 1).val / 128) + k.val = (128 * ((y 1).val / 128) + k.val) % 1024
    have h1 : (y 1).val < 1024 := (y 1).isLt
    omega

theorem gT_grp (x1 : Vec Ideal S1024x1024 .bf16) (b off : ℕ) (hoff : off = 128 * b) (hb : b < 8) (inb) (x : S1024x128.Idx) :
    gT (View.ld (Val := Elt Ideal) (S := S1024x1024) x1 (Rect.unit (s := S1024x1024) ![0, off] S1024x128.size inb)) x = grp x1 (x 0) b := by
  rw [gT_piece x1 b off hoff inb x, tAt_grp]
  subst hoff
  have h2 : (x 1).val < 128 := (x 1).isLt
  refine congrArg₂ (grp x1) (Fin.ext ?_) ?_
  · show 0 + 1 * (x 0).val = (x 0).val; omega
  · show (128 * b + 1 * (x 1).val) / 128 = b; omega

theorem lane_iff (l c b : ℕ) (hl : l < 128) (hc : c < 16) (hb : b < 8) :
    BitVec.ofNat 32 l = Scalar.addi (Scalar.muli (BitVec.ofNat 32 c) 8#32) (BitVec.ofNat 32 b) ↔ l = 8 * c + b := by
  show BitVec.ofNat 32 l = BitVec.ofNat 32 c * 8#32 + BitVec.ofNat 32 b ↔ _
  rw [← BitVec.toNat_inj]
  simp only [BitVec.toNat_add, BitVec.toNat_mul, BitVec.toNat_ofNat]
  omega

/-- The scales' block after a point: lane `8 c + b` holds group `b`'s scale, every other lane what was there. -/
def scStep (c : ℕ) (x1 : Vec Ideal S1024x1024 .bf16) (p : Vec Ideal S1024x128 .f32) : Vec Ideal S1024x128 .f32 := fun j =>
  if (j 1).val / 8 = c then DxMath.sc (grp x1 (j 0) ((j 1).val % 8)) else p j

theorem lane_apply (j : S1024x128.Idx) : iota .tc S1024x128 32 [1] iota_S1024x128_d1_w32 j = BitVec.ofNat 32 (j 1).val := by
  rw [iota_apply]
  simp

theorem chain (l c : ℕ) (S : ℕ → EReal) (p : EReal) :
    (if l = 8 * c + 7 then S 7 else if l = 8 * c + 6 then S 6 else if l = 8 * c + 5 then S 5 else if l = 8 * c + 4 then S 4
      else if l = 8 * c + 3 then S 3 else if l = 8 * c + 2 then S 2 else if l = 8 * c + 1 then S 1
      else if l = 8 * c + 0 then S 0 else p) = if l / 8 = c then S (l % 8) else p := by
  by_cases h : l / 8 = c
  · rw [if_pos h]
    have h8 : l % 8 < 8 := Nat.mod_lt _ (by decide)
    have he : l = 8 * c + l % 8 := by omega
    generalize l % 8 = q at h8 he ⊢
    subst he
    interval_cases q <;> simp
  · rw [if_neg h]
    repeat rw [if_neg (by omega)]

theorem sel_chain (c : ℕ) (hc : c < 16) (x1 : Vec Ideal S1024x1024 .bf16) (p : Vec Ideal S1024x128 .f32) (v3 : IVec S1024x128 32)
    (hv : ∀ j : S1024x128.Idx, v3 j = BitVec.ofNat 32 (j 1).val) (d0 d1 d2 d3 d4 d5 d6 d7 : Cols)
    (h0 : ∀ j : S1024x128.Idx, gT d0 j = grp x1 (j 0) 0) (h1 : ∀ j : S1024x128.Idx, gT d1 j = grp x1 (j 0) 1)
    (h2 : ∀ j : S1024x128.Idx, gT d2 j = grp x1 (j 0) 2) (h3 : ∀ j : S1024x128.Idx, gT d3 j = grp x1 (j 0) 3)
    (h4 : ∀ j : S1024x128.Idx, gT d4 j = grp x1 (j 0) 4) (h5 : ∀ j : S1024x128.Idx, gT d5 j = grp x1 (j 0) 5)
    (h6 : ∀ j : S1024x128.Idx, gT d6 j = grp x1 (j 0) 6) (h7 : ∀ j : S1024x128.Idx, gT d7 j = grp x1 (j 0) 7) :
    gSel (BitVec.ofNat 32 c) (BitVec.ofNat 32 7) v3 (gSel (BitVec.ofNat 32 c) (BitVec.ofNat 32 6) v3 (gSel (BitVec.ofNat 32 c) (BitVec.ofNat 32 5) v3
      (gSel (BitVec.ofNat 32 c) (BitVec.ofNat 32 4) v3 (gSel (BitVec.ofNat 32 c) (BitVec.ofNat 32 3) v3 (gSel (BitVec.ofNat 32 c) (BitVec.ofNat 32 2) v3
      (gSel (BitVec.ofNat 32 c) (BitVec.ofNat 32 1) v3 (gSel (BitVec.ofNat 32 c) (BitVec.ofNat 32 0) v3 p d0) d1) d2) d3) d4) d5) d6) d7 = scStep c x1 p := by
  funext j
  have hl : (j 1).val < 128 := (j 1).isLt
  have i0 := lane_iff (j 1).val c 0 hl hc (by decide)
  have i1 := lane_iff (j 1).val c 1 hl hc (by decide)
  have i2 := lane_iff (j 1).val c 2 hl hc (by decide)
  have i3 := lane_iff (j 1).val c 3 hl hc (by decide)
  have i4 := lane_iff (j 1).val c 4 hl hc (by decide)
  have i5 := lane_iff (j 1).val c 5 hl hc (by decide)
  have i6 := lane_iff (j 1).val c 6 hl hc (by decide)
  have i7 := lane_iff (j 1).val c 7 hl hc (by decide)
  simp only [gSel_apply, hv, h0, h1, h2, h3, h4, h5, h6, h7, i0, i1, i2, i3, i4, i5, i6, i7]
  exact chain (j 1).val c (fun b => DxMath.sc (grp x1 (j 0) b)) (p j)

/-- The accumulator after a point: what was there plus the chunk's product. -/
def accStep (x1 : Vec Ideal S1024x1024 .bf16) (x2 : Vec Ideal S640x1024 .i8) (acc : Vec Ideal S1024x2560 .f32) :
    Vec Ideal S1024x2560 .f32 :=
  k0_pay1 (F := Ideal) (k0_pay81 x2) acc (dqAt x1)

theorem canonA8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.2.1 = dqAt x1 := by
  rw [← outA8 c i arg2 harg2 arg3 harg3 arg4 harg4 arg5 harg5 arg6 harg6 arg7 harg7 arg8 harg8 arg9 harg9 arg10 harg10 arg11 harg11 arg12 harg12 hc0 hc1 x0 x1 x2 x3 x4]
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4)]

theorem soutA (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 = accStep x1 x2 (k0_pay3 (F := Ideal)) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S1024x2560) hz2]
  unfold accStep
  refine congr (congr (congrArg (k0_pay1 (F := Ideal)) (congrArg k0_pay81 ?_)) ?_) ?_
  · simp only [View.readAt_eq_ld, harg4.read_unread, View.ld_unit_zero (S := S640x1024) hz2]
  · exact View.readCov_unit_zero (S := S1024x2560) _ hz2 _ _
  · exact (View.readCov_eq_canon_ld _ _ _ (cover0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4)).trans
      ((View.ld_unit_zero (S := S1024x1024) hz2 _ _).trans (canonA8 c i arg2 harg2 arg3 harg3 arg4 harg4 arg5 harg5 arg6 harg6 arg7 harg7 arg8 harg8 arg9 harg9 arg10 harg10 arg11 harg11 arg12 harg12 hc0 hc1 x0 x1 x2 x3 x4))

theorem outA7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 = scStep (i 1).val x1 (k0_pay4 (F := Ideal)) := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S1024x128) hz2]
  simp only [View.readAt_eq_ld, harg3.read_unread, harg9.read_unread, sel0, sel1, sel2, sel3, sel4, sel5, sel6, sel7]
  refine Eq.trans ?_ (sel_chain (i 1).val (i 1).isLt x1 (k0_pay4 (F := Ideal)) (iota .tc S1024x128 32 [1] iota_S1024x128_d1_w32) lane_apply _ _ _ _ _ _ _ _
    (gT_grp x1 0 0 rfl (by decide) inb_S1024x1024_S1024x128_0_0) (gT_grp x1 1 128 rfl (by decide) inb_S1024x1024_S1024x128_0_128) (gT_grp x1 2 256 rfl (by decide) inb_S1024x1024_S1024x128_0_256) (gT_grp x1 3 384 rfl (by decide) inb_S1024x1024_S1024x128_0_384) (gT_grp x1 4 512 rfl (by decide) inb_S1024x1024_S1024x128_0_512) (gT_grp x1 5 640 rfl (by decide) inb_S1024x1024_S1024x128_0_640) (gT_grp x1 6 768 rfl (by decide) inb_S1024x1024_S1024x128_0_768) (gT_grp x1 7 896 rfl (by decide) inb_S1024x1024_S1024x128_0_896))
  congr 8
  unfold k0_pay6
  rw [shapeCast_self]
  exact View.readCov_unit_zero (S := S1024x128) _ hz2 _ _

theorem canonB8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 = dqAt x1 := by
  rw [← outB8 c i arg2 harg2 arg3 harg3 arg4 harg4 arg5 harg5 arg6 harg6 arg7 harg7 arg8 harg8 arg9 harg9 arg10 harg10 arg11 harg11 arg12 harg12 hc0 hc1 x0 x1 x2 x3 x4 xo7 xs0]
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]

theorem soutB (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = accStep x1 x2 xs0 := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold kernelRun0_B
  dsimp only
  sl_unfold_words
  rw [View.canon_cons_unit_zero (S := S1024x2560) hz2]
  unfold accStep
  refine congr (congr (congrArg (k0_pay1 (F := Ideal)) (congrArg k0_pay81 ?_)) ?_) ?_
  · simp only [View.readAt_eq_ld, harg4.read_unread, View.ld_unit_zero (S := S640x1024) hz2]
  · simp only [View.readAt_eq_ld, harg12.read_unread, View.ld_unit_zero (S := S1024x2560) hz2]
  · exact (View.readCov_eq_canon_ld _ _ _ (cover0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)).trans
      ((View.ld_unit_zero (S := S1024x1024) hz2 _ _).trans (canonB8 c i arg2 harg2 arg3 harg3 arg4 harg4 arg5 harg5 arg6 harg6 arg7 harg7 arg8 harg8 arg9 harg9 arg10 harg10 arg11 harg11 arg12 harg12 hc0 hc1 x0 x1 x2 x3 x4 xo7 xs0))

theorem outB7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = scStep (i 1).val x1 xo7 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold kernelRun0_B
  dsimp only
  sl_unfold_words
  rw [View.canon_cons_unit_zero (S := S1024x128) hz2]
  simp only [View.readAt_eq_ld, harg3.read_unread, harg9.read_unread, sel0, sel1, sel2, sel3, sel4, sel5, sel6, sel7]
  refine Eq.trans ?_ (sel_chain (i 1).val (i 1).isLt x1 xo7 (iota .tc S1024x128 32 [1] iota_S1024x128_d1_w32) lane_apply _ _ _ _ _ _ _ _
    (gT_grp x1 0 0 rfl (by decide) inb_S1024x1024_S1024x128_0_0) (gT_grp x1 1 128 rfl (by decide) inb_S1024x1024_S1024x128_0_128) (gT_grp x1 2 256 rfl (by decide) inb_S1024x1024_S1024x128_0_256) (gT_grp x1 3 384 rfl (by decide) inb_S1024x1024_S1024x128_0_384) (gT_grp x1 4 512 rfl (by decide) inb_S1024x1024_S1024x128_0_512) (gT_grp x1 5 640 rfl (by decide) inb_S1024x1024_S1024x128_0_640) (gT_grp x1 6 768 rfl (by decide) inb_S1024x1024_S1024x128_0_768) (gT_grp x1 7 896 rfl (by decide) inb_S1024x1024_S1024x128_0_896))
  congr 8
  unfold k0_pay6
  rw [shapeCast_self]
  exact View.ld_unit_zero (S := S1024x128) hz2 _ _

theorem canonC8 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    View.canon (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0).2.2.2.1 = dqAt x1 := by
  rw [← outC8 c i arg2 harg2 arg3 harg3 arg4 harg4 arg5 harg5 arg6 harg6 arg7 harg7 arg8 harg8 arg9 harg9 arg10 harg10 arg11 harg11 arg12 harg12 hc0 hc1 x0 x1 x2 x3 x4 xo7 xs0]
  unfold out0_C_8
  rw [View.read_writes_eq_canon _ _ _ (cover0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]

theorem soutC (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = accStep x1 x2 xs0 := by
  unfold sout0_C_0
  rw [View.read_writes_eq_canon _ _ _ (scover0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold kernelRun0_C
  dsimp only
  sl_unfold_words
  rw [View.canon_cons_unit_zero (S := S1024x2560) hz2]
  unfold accStep
  refine congr (congr (congrArg (k0_pay1 (F := Ideal)) (congrArg k0_pay81 ?_)) ?_) ?_
  · simp only [View.readAt_eq_ld, harg4.read_unread, View.ld_unit_zero (S := S640x1024) hz2]
  · simp only [View.readAt_eq_ld, harg12.read_unread, View.ld_unit_zero (S := S1024x2560) hz2]
  · exact (View.readCov_eq_canon_ld _ _ _ (cover0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)).trans
      ((View.ld_unit_zero (S := S1024x1024) hz2 _ _).trans (canonC8 c i arg2 harg2 arg3 harg3 arg4 harg4 arg5 harg5 arg6 harg6 arg7 harg7 arg8 harg8 arg9 harg9 arg10 harg10 arg11 harg11 arg12 harg12 hc0 hc1 x0 x1 x2 x3 x4 xo7 xs0))

theorem outC7 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = scStep (i 1).val x1 xo7 := by
  unfold out0_C_7
  rw [View.read_writes_eq_canon _ _ _ (cover0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold kernelRun0_C
  dsimp only
  sl_unfold_words
  rw [View.canon_cons_unit_zero (S := S1024x128) hz2]
  simp only [View.readAt_eq_ld, harg3.read_unread, harg9.read_unread, sel0, sel1, sel2, sel3, sel4, sel5, sel6, sel7]
  refine Eq.trans ?_ (sel_chain (i 1).val (i 1).isLt x1 xo7 (iota .tc S1024x128 32 [1] iota_S1024x128_d1_w32) lane_apply _ _ _ _ _ _ _ _
    (gT_grp x1 0 0 rfl (by decide) inb_S1024x1024_S1024x128_0_0) (gT_grp x1 1 128 rfl (by decide) inb_S1024x1024_S1024x128_0_128) (gT_grp x1 2 256 rfl (by decide) inb_S1024x1024_S1024x128_0_256) (gT_grp x1 3 384 rfl (by decide) inb_S1024x1024_S1024x128_0_384) (gT_grp x1 4 512 rfl (by decide) inb_S1024x1024_S1024x128_0_512) (gT_grp x1 5 640 rfl (by decide) inb_S1024x1024_S1024x128_0_640) (gT_grp x1 6 768 rfl (by decide) inb_S1024x1024_S1024x128_0_768) (gT_grp x1 7 896 rfl (by decide) inb_S1024x1024_S1024x128_0_896))
  congr 8
  unfold k0_pay6
  rw [shapeCast_self]
  exact View.ld_unit_zero (S := S1024x128) hz2 _ _

theorem outA9 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : cond0_0 i) (hc1 : ¬cond0_1 i)
    (x0 : Vec Ideal S1 .f32) (x1 : Vec Ideal S1024x1024 .bf16) (x2 : Vec Ideal S640x1024 .i8) (x3 : Vec Ideal S1024x2560 .i8) (x4 : Vec Ideal S1024x1 .f32) :
    out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 = k0_pay5 x3 x4 := by
  unfold out0_A_9
  rw [View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S2560x1024) hz2]
  simp only [View.readAt_eq_ld, harg5.read_unread, harg6.read_unread, View.ld_unit_zero (S := S1024x2560) hz2, View.ld_unit_zero (S := S1024x1) hz2]

theorem outC5 (c : Dev nD) (i : grid0.Coords) (arg2 : Memref sig .tc .smem S1 .f32) (harg2 : arg2.IsWhole) (arg3 : Memref sig .tc .vmem S1024x1024 .bf16) (harg3 : arg3.IsWhole) (arg4 : Memref sig .tc .vmem S640x1024 .i8) (harg4 : arg4.IsWhole) (arg5 : Memref sig .tc .vmem S1024x2560 .i8) (harg5 : arg5.IsWhole) (arg6 : Memref sig .tc .vmem S1024x1 .f32) (harg6 : arg6.IsWhole) (arg7 : Memref sig .tc .vmem S1024x2560 .bf16) (harg7 : arg7.IsWhole) (arg8 : Memref sig .tc .vmem S1024x1024 .fp8e5m2) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S2560x1024 .bf16) (harg11 : arg11.IsWhole) (arg12 : Memref sig .tc .vmem S1024x2560 .f32) (harg12 : arg12.IsWhole) (hc0 : ¬cond0_0 i) (hc1 : cond0_1 i)
    (x0 : Vec Ideal S1 .f32) (x1 : Vec Ideal S1024x1024 .bf16) (x2 : Vec Ideal S640x1024 .i8) (x3 : Vec Ideal S1024x2560 .i8) (x4 : Vec Ideal S1024x1 .f32) (xo7 : Vec Ideal S1024x128 .f32) (xs0 : Vec Ideal S1024x2560 .f32) :
    out0_C_5 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0 = k0_pay2 x3 (accStep x1 x2 xs0) (x0 (Shape.Idx.first (by decide))) := by
  rw [← soutC c i arg2 harg2 arg3 harg3 arg4 harg4 arg5 harg5 arg6 harg6 arg7 harg7 arg8 harg8 arg9 harg9 arg10 harg10 arg11 harg11 arg12 harg12 hc0 hc1 x0 x1 x2 x3 x4 xo7 xs0]
  unfold sout0_C_0
  rw [View.read_writes_eq_canon _ _ _ (scover0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold out0_C_5
  rw [View.read_writes_eq_canon _ _ _ (cover0_C_5 (F := Ideal) c i arg2 harg2 arg3 harg3 arg4 harg4 arg5 harg5 arg6 harg6 arg7 harg7 arg8 harg8 arg9 harg9 arg10 harg10 arg11 harg11 arg12 harg12 hc0 hc1 x0 x1 x2 x3 x4 xo7 xs0)]
  unfold kernelRun0_C
  dsimp only
  sl_unfold_words
  rw [View.canon_cons_unit_zero (S := S1024x2560) hz2, View.canon_cons_unit_zero (S := S1024x2560) hz2]
  refine congr (congr (congrArg (k0_pay2 (F := Ideal)) ?_) ?_) ?_
  · simp only [View.readAt_eq_ld, harg5.read_unread, View.ld_unit_zero (S := S1024x2560) hz2]
  · exact View.readCov_unit_zero (S := S1024x2560) _ hz2 _ _
  · simp only [View.readAt_eq_ld, harg2.read_unread]
    exact congrFun (View.ld_unit_zero (S := S1) hz1 _ x0) _

end Cert.KernelIdeal.Dx

end
-- ==== Proof.DxTern.lean ====
module

public import proofs.«01_k».proof.Proof.Gen.KernelIdeal.Skeleton
public import Idealize.ShloMosaic.Lib.Pointwise
public import Idealize.ShloMosaic.Lib.BitcastPair
public import Idealize.ShloMosaic.Lib.IdealHost
public import Idealize.ShloMosaic.Lib.Tactic

/-! The ternary weights: a packed byte holds four two-bit fields. The body spreads them over the four bytes of a word,
each byte the eight-bit float of its field's value, and reads the words as bytes. -/

@[expose] public section

noncomputable section

namespace Cert.DxTern

open Idealize.ShloMosaic

/-- Field `f` of a packed byte. -/
def field (v : BitVec 8) (f : ℕ) : BitVec 32 := (v.setWidth 32 >>> (2 * f)) &&& 3#32

/-- The weight a field stands for. -/
def trit (v : BitVec 8) (f : ℕ) : EReal := if field v f = 1#32 then 1 else if field v f = 2#32 then ((-(1 : ℝ) : ℝ) : EReal) else 0

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  rw [bitcast_32_8 x h]
  refine congrArg (fun y => (x y).extractLsb' (8 * (p.val % 4)) 8) (funext fun c => ?_)
  match c with
  | ⟨0, _⟩ => exact Fin.ext ((h.srcIdx_row _ _ _ ⟨0, Nat.zero_lt_two⟩ rfl).trans ha.symm)
  | ⟨1, _⟩ => exact Fin.ext (h.srcIdx_other _ _ _ ⟨1, Nat.one_lt_two⟩ (by show ¬ 1 + 2 = 2; omega))

/-- The fields of a byte, one to each byte of a word. -/
def spread (v : BitVec 8) : BitVec 32 :=
  (v.setWidth 32 ||| v.setWidth 32 <<< 6 ||| v.setWidth 32 <<< 12 ||| v.setWidth 32 <<< 18) &&& 50529027#32

/-- The word of the four weights' eight-bit floats. -/
def word (v : BitVec 8) : BitVec 32 :=
  let b1 := (spread v).sshiftRight 1 &&& 16843009#32
  let nz := (spread v &&& 16843009#32) ^^^ b1
  (nz <<< 2 ||| nz <<< 3 ||| nz <<< 4 ||| nz <<< 5) ||| (b1 &&& nz) <<< 7

/-- A byte of the word, by the field's value. -/
def code (v : BitVec 8) (f : ℕ) : BitVec 8 := if field v f = 1#32 then 0x3C#8 else if field v f = 2#32 then 0xBC#8 else 0#8

theorem word_byte_all : ∀ n : Fin 256, ∀ f : Fin 4, (word (BitVec.ofNat 8 n.val)).extractLsb' (8 * f.val) 8 = code (BitVec.ofNat 8 n.val) f.val := by
  decide +kernel

theorem word_byte (v : BitVec 8) (f : ℕ) (hf : f < 4) : (word v).extractLsb' (8 * f) 8 = code v f := by
  have h := word_byte_all ⟨v.toNat, v.isLt⟩ ⟨f, hf⟩
  simpa using h

theorem ofBits_3C : Ideal.ofBits .fp8e5m2 0x3C#8 = 1 := by
  simp [Ideal.ofBits, Ideal.ieee]
  rw [← EReal.coe_mul]; norm_num

theorem ofBits_BC : Ideal.ofBits .fp8e5m2 0xBC#8 = ((-(1 : ℝ) : ℝ) : EReal) := by
  simp [Ideal.ofBits, Ideal.ieee]
  rw [← EReal.coe_mul]; norm_num

theorem ofBits_00 : Ideal.ofBits .fp8e5m2 0#8 = 0 := by
  simp [Ideal.ofBits, Ideal.ieee]

theorem code_val (v : BitVec 8) (f : ℕ) : Ideal.ofBits .fp8e5m2 (code v f) = trit v f := by
  unfold code trit
  split_ifs
  · exact ofBits_3C
  · exact ofBits_BC
  · exact ofBits_00

open Cert.KernelIdeal Cert.KernelIdeal.Gen in
/-- The body's weights at row `p`, column `l`: field `p % 4` of the packed byte in row `p / 4`. -/
theorem weights (x2 : Vec Ideal S640x1024 .i8) (p : Fin 2560) (l : Fin 1024) :
    k0_pay81 x2 (ix2 p l) = trit (x2 (ix2 ⟨p.val / 4, by have := p.isLt; omega⟩ l)) (p.val % 4) := by
  rw [← code_val, ← word_byte _ _ (Nat.mod_lt _ (by decide))]
  unfold k0_pay81
  exact congrArg (Ideal.ofBits .fp8e5m2) (bitcast_32_8_ix2 (R := 2560) (r := 640) (n := 1024) _ _ p l ⟨p.val / 4, by have := p.isLt; omega⟩ rfl)

end Cert.DxTern

end
-- ==== Proof.DxVals.lean ====
module

public import proofs.«01_k».proof.Proof.DxBody
public import proofs.«01_k».proof.Proof.DxTern
public import Idealize.ShloMosaic.Lib.MatmulPlain

/-! The call's results as functions of its operands at an index, and what one point's blocks make of them. -/

@[expose] public section

set_option maxRecDepth 16384

noncomputable section

namespace Cert.KernelIdeal.Dx

open Cert.KernelIdeal Cert.KernelIdeal.Gen
open Idealize.ShloMosaic Idealize.ShloMosaic.TcCoe Idealize.SL.Sem

/-- Row `r`'s scaled maximum over group `b` of 128 columns of the whole gradient. -/
def gt (X : S6144x16384.Idx → EReal) (r : Fin 6144) (b : ℕ) : EReal :=
  tRow fun k => X (ix2 r ⟨(128 * b + k.val) % 16384, Nat.mod_lt _ (by decide)⟩)

/-- The codes. -/
def kcode (X : S6144x16384.Idx → EReal) (i : S6144x16384.Idx) : EReal := codeOf (X i) (DxMath.inv (gt X (i 0) ((i 1).val / 128)))

/-- The dequantised gradient. -/
def kdq (X : S6144x16384.Idx → EReal) (i : S6144x16384.Idx) : EReal := kcode X i * DxMath.sc (gt X (i 0) ((i 1).val / 128))

/-- The scales. -/
def kscale (X : S6144x16384.Idx → EReal) (i : S6144x128.Idx) : EReal := DxMath.sc (gt X (i 0) (i 1).val)

/-- The weight in row `q`, column `l` of the unpacked matrix. -/
def wt (W : S640x16384.Idx → BitVec 8) (q : Fin 2560) (l : Fin 16384) : EReal :=
  DxTern.trit (W (ix2 ⟨q.val / 4, by have := q.isLt; omega⟩ l)) (q.val % 4)

/-- One product of the main contraction. -/
def term (X : S6144x16384.Idx → EReal) (W : S640x16384.Idx → BitVec 8) (r : Fin 6144) (q : Fin 2560) (l : ℕ) : EReal :=
  kdq X (ix2 r ⟨l % 16384, Nat.mod_lt _ (by decide)⟩) * wt W q ⟨l % 16384, Nat.mod_lt _ (by decide)⟩

/-- The transposed activations. -/
def kxdt (C : S6144x2560.Idx → BitVec 8) (S : S6144x1.Idx → EReal) (i : S2560x6144.Idx) : EReal :=
  Scalar.sitofp (F := Ideal) .bf16 (C (ix2 (i 1) (i 0))) * S (ix2 (i 1) 0)

/-- The block of point `(T, c)` in the whole gradient. -/
def rowOf (T : ℕ) (hT : T < 6) (p : Fin 1024) : Fin 6144 := ⟨1024 * T + p.val, by have := p.isLt; omega⟩
def colOf (c : ℕ) (hc : c < 16) (p : Fin 1024) : Fin 16384 := ⟨1024 * c + p.val, by have := p.isLt; omega⟩

theorem grp_gt (x1 : Vec Ideal S1024x1024 .bf16) (X : S6144x16384.Idx → EReal) (T c : ℕ) (hT : T < 6) (hc : c < 16)
    (hx : ∀ (p q : Fin 1024), x1 (ix2 p q) = X (ix2 (rowOf T hT p) (colOf c hc q))) (p : Fin 1024) (b : ℕ) (hb : b < 8) :
    grp x1 p b = gt X (rowOf T hT p) (8 * c + b) := by
  unfold grp gt
  refine congrArg tRow (funext fun k => (hx _ _).trans (congrArg (fun z => X (ix2 (rowOf T hT p) z)) (Fin.ext ?_)))
  show 1024 * c + (128 * b + k.val) % 1024 = (128 * (8 * c + b) + k.val) % 16384
  have := k.isLt
  omega

theorem codeAt_eq (x1 : Vec Ideal S1024x1024 .bf16) (X : S6144x16384.Idx → EReal) (T c : ℕ) (hT : T < 6) (hc : c < 16)
    (hx : ∀ (p q : Fin 1024), x1 (ix2 p q) = X (ix2 (rowOf T hT p) (colOf c hc q))) (p q : Fin 1024) :
    codeAt x1 (ix2 p q) = kcode X (ix2 (rowOf T hT p) (colOf c hc q)) := by
  unfold codeAt kcode
  have hq := q.isLt
  have hg : (colOf c hc q).val / 128 = 8 * c + q.val / 128 := by show (1024 * c + q.val) / 128 = _; omega
  refine congrArg₂ codeOf (hx p q) (congrArg DxMath.inv ((tAt_grp x1 (ix2 p q)).trans ?_))
  refine (grp_gt x1 X T c hT hc hx p (q.val / 128) (by omega)).trans ?_
  exact congrArg (gt X (rowOf T hT p)) hg.symm

theorem dqAt_eq (x1 : Vec Ideal S1024x1024 .bf16) (X : S6144x16384.Idx → EReal) (T c : ℕ) (hT : T < 6) (hc : c < 16)
    (hx : ∀ (p q : Fin 1024), x1 (ix2 p q) = X (ix2 (rowOf T hT p) (colOf c hc q))) (p q : Fin 1024) :
    dqAt x1 (ix2 p q) = kdq X (ix2 (rowOf T hT p) (colOf c hc q)) := by
  unfold dqAt kdq
  have hq := q.isLt
  have hg : (colOf c hc q).val / 128 = 8 * c + q.val / 128 := by show (1024 * c + q.val) / 128 = _; omega
  refine congrArg₂ (fun a b : EReal => a * b) (codeAt_eq x1 X T c hT hc hx p q) (congrArg DxMath.sc ((tAt_grp x1 (ix2 p q)).trans ?_))
  refine (grp_gt x1 X T c hT hc hx p (q.val / 128) (by omega)).trans ?_
  exact congrArg (gt X (rowOf T hT p)) hg.symm

/-- One point's step of the accumulator. -/
theorem accStep_apply (x1 : Vec Ideal S1024x1024 .bf16) (x2 : Vec Ideal S640x1024 .i8) (acc : Vec Ideal S1024x2560 .f32)
    (p : Fin 1024) (q : Fin 2560) :
    accStep x1 x2 acc (ix2 p q) = (show EReal from acc (ix2 p q)) + ∑ k : Fin 1024, dqAt x1 (ix2 p k) *
      DxTern.trit (x2 (ix2 ⟨q.val / 4, by have := q.isLt; omega⟩ k)) (q.val % 4) := by
  unfold accStep
  have hm : FloatOps.matmul (F := Ideal) (φ₁ := .bf16) (φ₂ := .bf16) (DotDims.transposedRhs 1024 1024 2560) none (dqAt x1 : FVec Ideal S1024x1024 .bf16)
      (k0_pay81 x2 : FVec Ideal S2560x1024 .bf16) (constant S1024x2560 .f32 0x00000000#32) (ix2 p q) =
      ∑ k : Fin 1024, dqAt x1 (ix2 p k) * DxTern.trit (x2 (ix2 ⟨q.val / 4, by have := q.isLt; omega⟩ k)) (q.val % 4) := by
    refine (Ideal.matmul_transposedRhs_apply ..).trans ?_
    show Ideal.ofBits .f32 0x00000000#32 + _ = _
    rw [Ideal.ofBits_zero_f32, zero_add]
    exact Finset.sum_congr rfl fun k _ => congrArg (fun b : EReal => dqAt x1 (ix2 p k) * b) (DxTern.weights x2 q k)
  unfold k0_pay1
  simp only [shapeCast_self]
  exact congrArg (fun z : EReal => (show EReal from acc (ix2 p q)) + z) hm

theorem term_range (X : S6144x16384.Idx → EReal) (W : S640x16384.Idx → BitVec 8) (r : Fin 6144) (q : Fin 2560) (c : ℕ) :
    ∑ l ∈ Finset.range (1024 * (c + 1)), term X W r q l =
      (∑ l ∈ Finset.range (1024 * c), term X W r q l) + ∑ k : Fin 1024, term X W r q (1024 * c + k.val) := by
  rw [Nat.mul_succ, Finset.sum_range_add]
  exact congrArg _ (Finset.sum_range _)

/-- One point's step of the accumulator, read off the whole operands. -/
theorem accStep_eq (x1 : Vec Ideal S1024x1024 .bf16) (x2 : Vec Ideal S640x1024 .i8) (acc : Vec Ideal S1024x2560 .f32)
    (X : S6144x16384.Idx → EReal) (W : S640x16384.Idx → BitVec 8) (T c : ℕ) (hT : T < 6) (hc : c < 16)
    (hx : ∀ (p q : Fin 1024), x1 (ix2 p q) = X (ix2 (rowOf T hT p) (colOf c hc q)))
    (hw : ∀ (p : Fin 640) (k : Fin 1024), x2 (ix2 p k) = W (ix2 p (colOf c hc k))) (p : Fin 1024) (q : Fin 2560)
    (ha : acc (ix2 p q) = ∑ l ∈ Finset.range (1024 * c), term X W (rowOf T hT p) q l) :
    accStep x1 x2 acc (ix2 p q) = ∑ l ∈ Finset.range (1024 * (c + 1)), term X W (rowOf T hT p) q l := by
  rw [accStep_apply, term_range, ha]
  refine congrArg (fun z : EReal => _ + z) (Finset.sum_congr rfl fun k _ => ?_)
  have hl : (⟨(1024 * c + k.val) % 16384, Nat.mod_lt _ (by decide)⟩ : Fin 16384) = colOf c hc k :=
    Fin.ext (Nat.mod_eq_of_lt (by have := k.isLt; omega))
  unfold term wt
  rw [hl, dqAt_eq x1 X T c hT hc hx, hw]

/-- The transposed activations of a block. -/
theorem pay5_eq (x3 : Vec Ideal S1024x2560 .i8) (x4 : Vec Ideal S1024x1 .f32) (q : Fin 2560) (p : Fin 1024) :
    k0_pay5 x3 x4 (ix2 q p) = Scalar.sitofp (F := Ideal) .bf16 (x3 (ix2 p q)) * (show EReal from x4 (ix2 p 0)) := by
  unfold k0_pay5
  simp only [pointwise]
  exact congrArg (fun z => FloatOps.sitofp (F := Ideal) FTy.bf16 (x3 (ix2 p q)) * (show EReal from x4 z))
    (congrArg₂ ix2 (dif_neg (by decide)) (dif_pos rfl))

/-- The result's entry from the activation's code, the sum and gamma. -/
def dxSel (v : BitVec 8) (a g : EReal) : EReal :=
  Scalar.select (IntOp.cmpi .eq (IntOp.absi (BitVec.signExtend 32 v)) 127#32) (0 : EReal) (a * g)

theorem pay2_eq (x3 : Vec Ideal S1024x2560 .i8) (a : Vec Ideal S1024x2560 .f32) (g : EReal) (j : S1024x2560.Idx) :
    k0_pay2 x3 a g j = dxSel (x3 j) (a j) g := by
  unfold k0_pay2 dxSel
  simp only [pointwise]

/-- The gradient with respect to the activations. -/
def kdx (C : S6144x2560.Idx → BitVec 8) (g : EReal) (X : S6144x16384.Idx → EReal) (W : S640x16384.Idx → BitVec 8) (i : S6144x2560.Idx) : EReal :=
  dxSel (C i) (∑ l ∈ Finset.range 16384, term X W (i 0) (i 1) l) g

end Cert.KernelIdeal.Dx

end
-- ==== Proof.RefVals.lean ====
module

public import proofs.«01_k».proof.Proof.Gen.ReferenceIdeal.Frame
public import proofs.«01_k».proof.Proof.DxVals
public import Idealize.ShloMosaic.Lib.MatmulPlain

/-! The reference's payloads at an index. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Cert.KernelIdeal.Dx (gt tRow codeOf dxSel)

/-- The exponents, of the scaled maxima. -/
def expOf (v7 : FVec Ideal S6144x128 .f32) : FVec Ideal S6144x128 .f32 :=
  let z : FVec Ideal S6144x128 .f32 := broadcast S6144x128 (Scalar.ofBits .f32 0x00000000#32)
  let v11 := select (cmpf .olt v7 (broadcast S6144x128 (Scalar.ofBits (F := Ideal) .f32 0x00800000#32))) z v7
  select (cmpf .oeq v11 z) z (addf (floor (divf (log v11) (log (broadcast S6144x128 (Scalar.ofBits (F := Ideal) .f32 0x40000000#32)))))
    (broadcast S6144x128 (Scalar.ofBits (F := Ideal) .f32 0x3F800000#32)))

theorem expOf_apply (v7 : FVec Ideal S6144x128 .f32) (j : S6144x128.Idx) : expOf v7 j = DxMath.refE (v7 j) := rfl

/-- The scaled maxima. -/
def maxOf (v3 : FVec Ideal S6144x128x128 .f32) : FVec Ideal S6144x128 .f32 :=
  mulf (multiReduction .maximumf [2] S6144x128 (absf v3) 0xFF800000#32 reduces_S6144x128x128_S6144x128 (.inl rfl) rfl)
    (broadcast S6144x128 (Scalar.ofBits (F := Ideal) .f32 0x37924925#32))

theorem pay5_expOf (v0 : Vec Ideal S6144x16384 .bf16) : k0_pay5 v0 = expOf (maxOf (k0_pay4 v0)) := rfl

theorem pay4_apply (v0 : Vec Ideal S6144x16384 .bf16) (r : Fin 6144) (g k : Fin 128) :
    k0_pay4 v0 (ix3 r g k) = v0 (ix2 r ⟨(128 * g.val + k.val) % 16384, Nat.mod_lt _ (by decide)⟩) := by
  unfold k0_pay4
  simp only [pointwise]
  exact congrArg (fun z => v0 (ix2 r z)) (Fin.ext (by have := g.isLt; have := k.isLt; show g.val * 128 + k.val = (128 * g.val + k.val) % 16384; omega))

theorem absMax_apply (v3 : FVec Ideal S6144x128x128 .f32) (r : Fin 6144) (g : Fin 128) :
    multiReduction .maximumf [2] S6144x128 (absf v3) 0xFF800000#32 reduces_S6144x128x128_S6144x128 (.inl rfl) rfl (ix2 r g)
      = Finset.univ.fold max (Ideal.ofBits .f32 0xFF800000#32) fun k : Fin 128 => FloatOps.absf (F := Ideal) (φ := .bf16) (v3 (ix3 r g k)) := by
  simp only [pointwise]
  rfl

theorem mulc_apply (v : FVec Ideal S6144x128 .f32) (j : S6144x128.Idx) :
    mulf v (broadcast S6144x128 (Scalar.ofBits (F := Ideal) .f32 0x37924925#32)) j = v j * Ideal.ofBits .f32 0x37924925#32 := rfl

theorem maxOf_apply (v3 : FVec Ideal S6144x128x128 .f32) (r : Fin 6144) (g : Fin 128) :
    maxOf v3 (ix2 r g) = tRow fun k => v3 (ix3 r g k) := by
  unfold maxOf tRow
  rw [mulc_apply, absMax_apply]

theorem spread_apply (e : FVec Ideal S6144x128 .f32) (r : Fin 6144) (g k : Fin 128) : broadcastTo S6144x128x128 (shapeCast S6144x128x1 e shapeCasts_S6144x128_S6144x128x1) broadcasts_S6144x128x1_S6144x128x128 (ix3 r g k) = e (ix2 r g) := by
  simp only [pointwise]
  exact congrArg e (congrArg₂ ix2 (dif_neg (by decide)) (dif_neg (by decide)))

theorem clip_apply (x y : FVec Ideal S6144x128x128 .f32) (j : S6144x128x128.Idx) :
    (truncf .fp8e5m2 (minimumf (broadcast S6144x128x128 (Scalar.ofBits (F := Ideal) .f32 0x47600000#32))
      (maximumf (broadcast S6144x128x128 (Scalar.ofBits (F := Ideal) .f32 0xC7600000#32)) (mulf x y))) (by decide) : FVec Ideal S6144x128x128 .fp8e5m2) j
      = codeOf (x j) (y j) := rfl

theorem neg_apply (e : FVec Ideal S6144x128 .f32) (j : S6144x128.Idx) :
    exp2 (subf (broadcast S6144x128 (Scalar.ofBits (F := Ideal) .f32 0x00000000#32)) e) j = Ideal.exp2 (Ideal.ofBits .f32 0x00000000#32 - (show EReal from e j)) := rfl

theorem pay7_apply (v0 : Vec Ideal S6144x16384 .bf16) (r : Fin 6144) (g k : Fin 128) :
    k0_pay7 v0 (ix3 r g k) = codeOf (k0_pay4 v0 (ix3 r g k)) (Ideal.exp2 (Ideal.ofBits .f32 0x00000000#32 - (show EReal from k0_pay5 v0 (ix2 r g)))) := by
  unfold k0_pay7
  generalize k0_pay5 v0 = e
  generalize k0_pay4 v0 = x
  dsimp only
  rw [clip_apply, spread_apply, neg_apply]

theorem pay2_apply (v : FVec Ideal S6144x128x128 .fp8e5m2) (i : S6144x16384.Idx) :
    k0_pay2 v i = v (ix3 (i 0) ⟨(i 1).val / 128, by have h : (i 1).val < 16384 := (i 1).isLt; omega⟩ ⟨(i 1).val % 128, Nat.mod_lt _ (by decide)⟩) := by
  unfold k0_pay2
  simp only [pointwise]

theorem pay8_apply (v0 : Vec Ideal S6144x16384 .bf16) (i : S6144x16384.Idx) :
    k0_pay8 v0 i = (show EReal from k0_pay2 (k0_pay7 v0) i) * k0_pay6 v0 (ix2 (i 0) ⟨(i 1).val / 128, by have h : (i 1).val < 16384 := (i 1).isLt; omega⟩) := by
  rw [pay2_apply]
  unfold k0_pay8
  generalize k0_pay7 v0 = x
  generalize k0_pay6 v0 = s
  simp only [pointwise]
  exact congrArg (fun z => (show EReal from x (ix3 (i 0) ⟨(i 1).val / 128, _⟩ ⟨(i 1).val % 128, _⟩)) * (show EReal from s z))
    (congrArg₂ ix2 (dif_neg (by decide)) (dif_neg (by decide)))

theorem pay9_apply (v0 : Vec Ideal S6144x16384 .bf16) (w : Vec Ideal S2560x16384 .bf16) (r : Fin 6144) (q : Fin 2560) :
    k0_pay9 v0 w (ix2 r q) = ∑ l : Fin 16384, (show EReal from k0_pay8 v0 (ix2 r l)) * (show EReal from w (ix2 q l)) := by
  unfold k0_pay9
  generalize k0_pay8 v0 = d
  simp only [shapeCast_self]
  show FloatOps.matmul (F := Ideal) (DotDims.transposedRhs 6144 16384 2560) none d w _ (ix2 r q) = _
  refine (Ideal.matmul_transposedRhs_apply ..).trans ?_
  show Ideal.ofBits .f32 0x00000000#32 + _ = _
  rw [Ideal.ofBits_zero_f32, zero_add]
  rfl

theorem pay1_apply (a : FVec Ideal S6144x2560 .f32) (g : Vec Ideal S1x1 .f32) (x : Vec Ideal S6144x2560 .i8) (j : S6144x2560.Idx) :
    k0_pay1 a g x j = dxSel (x j) (a j) (g (ix2 0 0)) := by
  unfold k0_pay1 dxSel
  simp only [pointwise]

theorem pay3_apply (x3 : Vec Ideal S6144x2560 .i8) (x4 : Vec Ideal S6144x1 .f32) (q : Fin 2560) (p : Fin 6144) :
    k0_pay3 x3 x4 (ix2 q p) = Scalar.sitofp (F := Ideal) .bf16 (x3 (ix2 p q)) * (show EReal from x4 (ix2 p 0)) := by
  unfold k0_pay3
  simp only [pointwise]
  exact congrArg (fun z => FloatOps.sitofp (F := Ideal) FTy.bf16 (x3 (ix2 p q)) * (show EReal from x4 z))
    (congrArg₂ ix2 (dif_neg (by decide)) (dif_pos rfl))

end Cert.ReferenceIdeal.Dx

end
-- ==== Proof.DxBound.lean ====
module

public import proofs.«01_k».proof.Proof.DxVals
public import proofs.«01_k».proof.Proof.Gen.Pre_finite

/-! Under the precondition a group's scaled maximum is a real below `2 ^ 113`. -/

@[expose] public section

set_option maxRecDepth 16384

noncomputable section

namespace Cert.KernelIdeal.Dx

open Idealize.ShloMosaic

/-- The greatest bfloat16. -/
theorem top_eq : Ideal.ofBits .f32 0x7F7F0000#32 = (((255 : ℝ) * (2 : ℝ) ^ (120 : ℤ) : ℝ) : EReal) := by
  have h : Ideal.ofBits .f32 0x7F7F0000#32 = (((16711680 : ℝ) * (2 : ℝ) ^ (104 : ℤ) : ℝ) : EReal) := by
    simp [Ideal.ofBits, Ideal.ieee]
  rw [h]
  norm_num

theorem bot_eq : Ideal.ofBits .f32 0xFF800000#32 = (⊥ : EReal) := by
  simp [Ideal.ofBits, Ideal.ieee]

/-- The quantiser's factor, one over the greatest code. -/
theorem fac_eq : Ideal.ofBits .f32 0x37924925#32 = (((9586981 : ℝ) * (2 : ℝ) ^ (-39 : ℤ) : ℝ) : EReal) := by
  simp [Ideal.ofBits, Ideal.ieee]

/-- A fold of `max` from `⊥` over bounded values is bounded, and below by each value. -/
theorem fold_bounds {b : EReal} (f : Fin 128 → EReal) (h : ∀ k, f k ≤ b) :
    (Finset.univ : Finset (Fin 128)).fold max (⊥ : EReal) f ≤ b ∧ f 0 ≤ (Finset.univ : Finset (Fin 128)).fold max (⊥ : EReal) f :=
  ⟨Finset.fold_max_le b |>.mpr ⟨bot_le, fun k _ => h k⟩, (Finset.le_fold_max _).mpr (Or.inr ⟨0, Finset.mem_univ 0, le_rfl⟩)⟩

theorem abs_nonneg' (x : EReal) : 0 ≤ max x (-x) := by
  rcases le_total 0 x with h | h
  · exact le_max_of_le_left h
  · exact le_max_of_le_right (EReal.neg_nonneg.mpr h)

/-- A scaled maximum of bounded magnitudes is a real below `2 ^ 113`. -/
theorem tRow_real (f : Fin 128 → EReal) (h : ∀ k, max (f k) (-(f k)) ≤ Ideal.ofBits .f32 0x7F7F0000#32) :
    ∃ r : ℝ, r < (2 : ℝ) ^ (113 : ℤ) ∧ tRow f = (r : EReal) := by
  have hb := fold_bounds (fun k => max (f k) (-(f k))) h
  have he : tRow f = (Finset.univ : Finset (Fin 128)).fold max (⊥ : EReal) (fun k => max (f k) (-(f k))) * Ideal.ofBits .f32 0x37924925#32 := by
    unfold tRow
    rw [bot_eq]
    rfl
  have h0 := (abs_nonneg' (f 0)).trans hb.2
  have h1 := hb.1
  rw [top_eq] at h1
  rw [he, fac_eq]
  generalize (Finset.univ : Finset (Fin 128)).fold max (⊥ : EReal) (fun k => max (f k) (-(f k))) = s at h0 h1
  induction s using EReal.rec with
  | bot => exact absurd h0 (by simp)
  | top => exact absurd h1 (not_le.mpr (EReal.coe_lt_top _))
  | coe s =>
    refine ⟨s * (9586981 * (2 : ℝ) ^ (-39 : ℤ)), ?_, (EReal.coe_mul _ _).symm⟩
    have hs : s ≤ 255 * (2 : ℝ) ^ (120 : ℤ) := EReal.coe_le_coe_iff.mp h1
    calc s * (9586981 * (2 : ℝ) ^ (-39 : ℤ)) ≤ (255 * (2 : ℝ) ^ (120 : ℤ)) * (9586981 * (2 : ℝ) ^ (-39 : ℤ)) :=
          mul_le_mul_of_nonneg_right hs (by positivity)
      _ < (2 : ℝ) ^ (113 : ℤ) := by norm_num

/-- The precondition, at an entry. -/
theorem pre_at (a0 : IVec Cert.Pre_finite.S2x3072x2560 8) (a1 : FVec Ideal Cert.Pre_finite.S2x3072 .f32) (a2 : IVec Cert.Pre_finite.S640x16384 8)
    (a3 : FVec Ideal Cert.Pre_finite.S_ .f32) (a4 : FVec Ideal Cert.Pre_finite.S2x3072x16384 .bf16)
    (h : Cert.Pre_finite.fn (F := Ideal) a0 a1 a2 a3 a4 = fun _ => 1#1) (i : Cert.Pre_finite.S2x3072x16384.Idx) :
    max (show EReal from a4 i) (-(show EReal from a4 i)) ≤ Ideal.ofBits .f32 0x7F7F0000#32 := by
  have h' : Ideal.cmp .ole (max (show EReal from a4 i) (-(show EReal from a4 i))) (Ideal.ofBits .f32 0x7F7F0000#32) = 1#1 := congrFun h i
  unfold Ideal.cmp at h'
  by_contra hc
  simp [hc] at h'

end Cert.KernelIdeal.Dx

end
-- ==== Proof.DxSame.lean ====
module

public import proofs.«01_k».proof.Proof.RefVals
public import proofs.«01_k».proof.Proof.DxBound

/-! On bounded upstream gradients the arrays the kernel leaves and the arrays the reference leaves agree. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Cert.KernelIdeal.Dx (gt tRow codeOf dxSel kcode kdq kscale kdx kxdt wt term)

/-- The magnitudes are at most the greatest bfloat16. -/
def Bounded (X : S6144x16384.Idx → EReal) : Prop := ∀ i, max (X i) (-(X i)) ≤ Ideal.ofBits .f32 0x7F7F0000#32

/-- The kernel's scale and reciprocal of a group are the reference's. -/
theorem scales {X : S6144x16384.Idx → EReal} (hX : Bounded X) (r : Fin 6144) (b : ℕ) :
    DxMath.sc (gt X r b) = DxMath.refSc (gt X r b) ∧ DxMath.inv (gt X r b) = DxMath.refInv (gt X r b) := by
  obtain ⟨s, h1, h2⟩ := Cert.KernelIdeal.Dx.tRow_real
    (fun k => X (ix2 r ⟨(128 * b + k.val) % 16384, Nat.mod_lt _ (by decide)⟩)) fun k => hX _
  have h3 : gt X r b = (s : EReal) := h2
  rw [h3]
  exact DxMath.scale_eq h1

theorem pay5_apply (X : S6144x16384.Idx → EReal) (r : Fin 6144) (g : Fin 128) :
    (show EReal from k0_pay5 (F := Ideal) X (ix2 r g)) = DxMath.refE (gt X r g.val) := by
  show k0_pay5 (F := Ideal) X (ix2 r g) = _
  rw [pay5_expOf, expOf_apply, maxOf_apply]
  exact congrArg (fun f => DxMath.refE (tRow f)) (funext fun k => pay4_apply X r g k)

theorem exp2_apply (e : FVec Ideal S6144x128 .f32) (j : S6144x128.Idx) : exp2 e j = Ideal.exp2 (show EReal from e j) := rfl

theorem pay6_exp2 (v0 : Vec Ideal S6144x16384 .bf16) (j : S6144x128.Idx) :
    k0_pay6 v0 j = Ideal.exp2 (show EReal from k0_pay5 v0 j) := by
  unfold k0_pay6
  exact exp2_apply (k0_pay5 v0) j

theorem pay6_apply (X : S6144x16384.Idx → EReal) (r : Fin 6144) (g : Fin 128) :
    (show EReal from k0_pay6 (F := Ideal) X (ix2 r g)) = DxMath.refSc (gt X r g.val) :=
  (pay6_exp2 X (ix2 r g)).trans (congrArg Ideal.exp2 (pay5_apply X r g))

theorem code_apply (X : S6144x16384.Idx → EReal) (i : S6144x16384.Idx) :
    (show EReal from k0_pay2 (k0_pay7 (F := Ideal) X) i) = codeOf (X i) (DxMath.refInv (gt X (i 0) ((i 1).val / 128))) := by
  have h : (i 1).val < 16384 := (i 1).isLt
  refine (pay2_apply _ i).trans ((pay7_apply X _ _ _).trans ?_)
  refine congrArg₂ codeOf ((pay4_apply X _ _ _).trans (congrArg X ?_))
    (congrArg (fun e => Ideal.exp2 (Ideal.ofBits .f32 0x00000000#32 - e)) (pay5_apply X (i 0) ⟨(i 1).val / 128, by omega⟩))
  funext a
  refine Fin.ext ?_
  match a with
  | ⟨0, _⟩ => rfl
  | ⟨1, _⟩ =>
    show (128 * ((i 1).val / 128) + (i 1).val % 128) % 16384 = (i 1).val
    omega

theorem same6 {X : S6144x16384.Idx → EReal} (hX : Bounded X) : kcode X = k0_pay2 (k0_pay7 (F := Ideal) X) := by
  funext i
  refine Eq.trans ?_ (code_apply X i).symm
  unfold kcode
  rw [(scales hX (i 0) _).2]

theorem same7 {X : S6144x16384.Idx → EReal} (hX : Bounded X) : kscale X = k0_pay6 (F := Ideal) X := by
  funext i
  have hi : i = ix2 (i 0) (i 1) := by funext a; match a with | ⟨0, _⟩ => rfl | ⟨1, _⟩ => rfl
  refine Eq.trans ?_ ((congrArg (k0_pay6 (F := Ideal) X) hi).trans (pay6_apply X (i 0) (i 1))).symm
  unfold kscale
  exact (scales hX (i 0) _).1

theorem same8 {X : S6144x16384.Idx → EReal} (hX : Bounded X) : kdq X = k0_pay8 (F := Ideal) X := by
  funext i
  refine Eq.trans ?_ (pay8_apply X i).symm
  refine congrArg₂ (fun a b : EReal => a * b) (congrFun (same6 hX) i) ?_
  exact ((scales hX (i 0) _).1).trans (pay6_apply X (i 0) ⟨(i 1).val / 128, by have h : (i 1).val < 16384 := (i 1).isLt; omega⟩).symm

theorem same9 (C : S6144x2560.Idx → BitVec 8) (S : S6144x1.Idx → EReal) : kxdt C S = k0_pay3 (F := Ideal) C S := by
  funext i
  have hi : i = ix2 (i 0) (i 1) := by funext a; match a with | ⟨0, _⟩ => rfl | ⟨1, _⟩ => rfl
  exact ((congrArg (k0_pay3 (F := Ideal) C S) hi).trans (pay3_apply C S (i 0) (i 1))).symm

/-- The sum over the lanes of a row, written over the lanes' finite type. -/
theorem sum_eq (X D : S6144x16384.Idx → EReal) (hD : kdq X = D) (P : S640x16384.Idx → BitVec 8) (W : S2560x16384.Idx → EReal)
    (hW : ∀ q l, wt P q l = W (ix2 q l)) (r : Fin 6144) (q : Fin 2560) :
    ∑ l ∈ Finset.range 16384, term X P r q l = ∑ l : Fin 16384, D (ix2 r l) * W (ix2 q l) := by
  rw [Finset.sum_range]
  refine Finset.sum_congr rfl fun l _ => ?_
  unfold term
  have hl : (⟨l.val % 16384, Nat.mod_lt _ (by decide)⟩ : Fin 16384) = l := Fin.ext (Nat.mod_eq_of_lt l.isLt)
  rw [hl, hD, hW]

theorem same5 {X : S6144x16384.Idx → EReal} (hX : Bounded X) (C : S6144x2560.Idx → BitVec 8) (P : S640x16384.Idx → BitVec 8)
    (W : S2560x16384.Idx → EReal) (hW : ∀ q l, wt P q l = W (ix2 q l)) (g : EReal) (G : S1x1.Idx → EReal) (hG : g = G (ix2 0 0)) :
    kdx C g X P = k0_pay1 (F := Ideal) (k0_pay9 (F := Ideal) X W) G C := by
  funext i
  have hi : i = ix2 (i 0) (i 1) := by funext a; match a with | ⟨0, _⟩ => rfl | ⟨1, _⟩ => rfl
  refine Eq.trans ?_ (pay1_apply (k0_pay9 (F := Ideal) X W) G C i).symm
  unfold kdx
  rw [sum_eq X _ (same8 hX) P W hW (i 0) (i 1), hG]
  refine congrArg (fun z => dxSel (C i) z (G (ix2 0 0))) ?_
  exact ((congrArg (k0_pay9 (F := Ideal) X W) hi).trans (pay9_apply X W (i 0) (i 1))).symm

end Cert.ReferenceIdeal.Dx

end
-- ==== Proof.DxBlocks.lean ====
module

public import proofs.«01_k».proof.Proof.DxFrame
public import Idealize.ShloMosaic.Lib.Pipeline.Value

/-! The run with each output array after it named, and what each point writes back. -/

@[expose] public section

set_option maxRecDepth 16384

noncomputable section

namespace Cert.KernelIdeal.Dx

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output window 5. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- What point `t` writes back to output window 6. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- What point `t` writes back to output window 7. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- What point `t` writes back to output window 8. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- What point `t` writes back to output window 9. -/
theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

/-- After the run, the array of output window 5. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the run, the array of output window 6. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the run, the array of output window 7. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the run, the array of output window 8. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the run, the array of output window 9. -/
theorem post9 (r : PUnit × MemSt nD τ sig (Elt F)) (h : Pipeline.FramePost cfgs (dats m) 0 (V m) r) (c : Dev nD) :
    r.2.mem ((c : Thread nD τ).loc main_v4_4) = (dats m 0 c).arrAt 9 cfg0.N :=
  (h c).1 9

/-- The run leaves argument 0 as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves argument 1 as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run leaves argument 3 as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument 4 as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, each output array named, the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.KernelIdeal.Dx

end
-- ==== Proof.DxPoints.lean ====
module

public import proofs.«01_k».proof.Proof.DxVals
public import proofs.«01_k».proof.Proof.DxBlocks
public import Idealize.ShloMosaic.Lib.Claim

/-! What every point of the grid leaves in the outputs' staging buffers and in the accumulator. -/

@[expose] public section

set_option maxRecDepth 16384

noncomputable section

namespace Cert.KernelIdeal.Dx

open Cert.KernelIdeal Cert.KernelIdeal.Gen
open Idealize.ShloMosaic Idealize.ShloMosaic.TcCoe Idealize.SL.Sem

theorem coords1 : ∀ t : Fin cfg0.N, (grid0.coords t 1).val = t.val % 16 := (by decide +kernel : ∀ t : Fin grid0.N, _)
theorem idx0 : ∀ t : Fin cfg0.N, win0_0.index t 0 = 0 := (by decide +kernel : ∀ t : Fin grid0.N, _)
theorem idx1 : ∀ t : Fin cfg0.N, win0_1.index t 0 = t.val / 16 ∧ win0_1.index t 1 = t.val % 16 := (by decide +kernel : ∀ t : Fin grid0.N, _)
theorem idx2 : ∀ t : Fin cfg0.N, win0_2.index t 0 = 0 ∧ win0_2.index t 1 = t.val % 16 := (by decide +kernel : ∀ t : Fin grid0.N, _)
theorem idx3 : ∀ t : Fin cfg0.N, win0_3.index t 0 = t.val / 16 ∧ win0_3.index t 1 = 0 := (by decide +kernel : ∀ t : Fin grid0.N, _)
theorem idx4 : ∀ t : Fin cfg0.N, win0_4.index t 0 = t.val / 16 ∧ win0_4.index t 1 = 0 := (by decide +kernel : ∀ t : Fin grid0.N, _)

theorem lt96 (t : Fin cfg0.N) : t.val < 96 := lt_of_lt_of_eq t.isLt (show cfg0.N = 96 from N_0)
theorem tile_lt (n : ℕ) (h : n < cfg0.N) : n / 16 < 6 := by have := lt96 ⟨n, h⟩; dsimp only at this; omega
theorem chunk_lt (n : ℕ) : n % 16 < 16 := Nat.mod_lt _ (by decide)

variable (m : (ℓ : Loc nD τ sig) → Buf (Elt Ideal) ℓ)

theorem blk0 (c : Dev nD) (t : Fin cfg0.N) (j : S1.Idx) :
    (iblk m c 0 t : Vec Ideal S1 .f32) j = V m c main_v0 j := by
  unfold iblk
  rw [View.read_apply]
  show V m c main_v0 _ = V m c main_v0 _
  congr 1
  funext a
  apply Fin.ext
  match a with
  | ⟨0, _⟩ => show win0_0.index t 0 * 1 + 1 * (j 0).val = (j 0).val; rw [idx0 t]; omega

theorem blk1 (c : Dev nD) (t : Fin cfg0.N) (p q : Fin 1024) :
    (iblk m c 1 t : Vec Ideal S1024x1024 .bf16) (ix2 p q) =
      V m c main_v1 (ix2 (rowOf (t.val / 16) (tile_lt t.val t.isLt) p) (colOf (t.val % 16) (chunk_lt t.val) q)) := by
  unfold iblk
  rw [View.read_apply]
  show V m c main_v1 _ = V m c main_v1 _
  congr 1
  funext a
  apply Fin.ext
  match a with
  | ⟨0, _⟩ => show win0_1.index t 0 * 1024 + 1 * p.val = 1024 * (t.val / 16) + p.val; rw [(idx1 t).1]; omega
  | ⟨1, _⟩ => show win0_1.index t 1 * 1024 + 1 * q.val = 1024 * (t.val % 16) + q.val; rw [(idx1 t).2]; omega

theorem blk2 (c : Dev nD) (t : Fin cfg0.N) (p : Fin 640) (q : Fin 1024) :
    (iblk m c 2 t : Vec Ideal S640x1024 .i8) (ix2 p q) =
      V m c main_arg2 (ix2 p (colOf (t.val % 16) (chunk_lt t.val) q)) := by
  unfold iblk
  rw [View.read_apply]
  show V m c main_arg2 _ = V m c main_arg2 _
  congr 1
  funext a
  apply Fin.ext
  match a with
  | ⟨0, _⟩ => show win0_2.index t 0 * 640 + 1 * p.val = p.val; rw [(idx2 t).1]; omega
  | ⟨1, _⟩ => show win0_2.index t 1 * 1024 + 1 * q.val = 1024 * (t.val % 16) + q.val; rw [(idx2 t).2]; omega

theorem blk3 (c : Dev nD) (t : Fin cfg0.N) (p : Fin 1024) (q : Fin 2560) :
    (iblk m c 3 t : Vec Ideal S1024x2560 .i8) (ix2 p q) =
      V m c main_v2 (ix2 (rowOf (t.val / 16) (tile_lt t.val t.isLt) p) q) := by
  unfold iblk
  rw [View.read_apply]
  show V m c main_v2 _ = V m c main_v2 _
  congr 1
  funext a
  apply Fin.ext
  match a with
  | ⟨0, _⟩ => show win0_3.index t 0 * 1024 + 1 * p.val = 1024 * (t.val / 16) + p.val; rw [(idx3 t).1]; omega
  | ⟨1, _⟩ => show win0_3.index t 1 * 2560 + 1 * q.val = q.val; rw [(idx3 t).2]; omega

theorem blk4 (c : Dev nD) (t : Fin cfg0.N) (p : Fin 1024) (q : Fin 1) :
    (iblk m c 4 t : Vec Ideal S1024x1 .f32) (ix2 p q) =
      V m c main_v3 (ix2 (rowOf (t.val / 16) (tile_lt t.val t.isLt) p) q) := by
  unfold iblk
  rw [View.read_apply]
  show V m c main_v3 _ = V m c main_v3 _
  congr 1
  funext a
  apply Fin.ext
  match a with
  | ⟨0, _⟩ => show win0_4.index t 0 * 1024 + 1 * p.val = 1024 * (t.val / 16) + p.val; rw [(idx4 t).1]; omega
  | ⟨1, _⟩ => show win0_4.index t 1 * 1 + 1 * q.val = q.val; rw [(idx4 t).2]; omega

/-- The codes' buffer after a point. -/
theorem at6 (c : Dev nD) (t : Fin cfg0.N) : (outsAt0 m c t.val t.isLt).2.1 = codeAt (iblk m c 1 t) := by
  by_cases h0 : t.val % 16 = 0
  · have h1 : ¬t.val % 16 = 15 := by omega
    rw [outsAt0_A m c t h0 h1]
    dsimp only
    rw [outA6]
  · by_cases h1 : t.val % 16 = 15
    · rw [outsAt0_C m c t h0 h1]
      dsimp only
      rw [outC6]
    · rw [outsAt0_B m c t h0 h1]
      dsimp only
      rw [outB6]

/-- The dequantised values' buffer after a point. -/
theorem at8 (c : Dev nD) (t : Fin cfg0.N) : (outsAt0 m c t.val t.isLt).2.2.2.1 = dqAt (iblk m c 1 t) := by
  by_cases h0 : t.val % 16 = 0
  · have h1 : ¬t.val % 16 = 15 := by omega
    rw [outsAt0_A m c t h0 h1]
    dsimp only
    rw [outA8]
  · by_cases h1 : t.val % 16 = 15
    · rw [outsAt0_C m c t h0 h1]
      dsimp only
      rw [outC8]
    · rw [outsAt0_B m c t h0 h1]
      dsimp only
      rw [outB8]

/-- The scales' buffer after a tile's first point. -/
theorem at7_A (c : Dev nD) (t : Fin cfg0.N) (h0 : t.val % 16 = 0) :
    (outsAt0 m c t.val t.isLt).2.2.1 = scStep (t.val % 16) (iblk m c 1 t) (k0_pay4 (F := Ideal)) := by
  have h1 : ¬t.val % 16 = 15 := by omega
  rw [outsAt0_A m c t h0 h1]
  dsimp only
  rw [outA7, coords1]

/-- The scales' buffer after a later point. -/
theorem at7_S (c : Dev nD) (t : Fin cfg0.N) (h0 : ¬t.val % 16 = 0) :
    (outsAt0 m c t.val t.isLt).2.2.1 = scStep (t.val % 16) (iblk m c 1 t)
      (outsAt0 m c (t.val - 1) (Nat.lt_of_le_of_lt (Nat.sub_le _ _) t.isLt)).2.2.1 := by
  by_cases h1 : t.val % 16 = 15
  · rw [outsAt0_C m c t h0 h1]
    dsimp only
    rw [outC7, coords1]
  · rw [outsAt0_B m c t h0 h1]
    dsimp only
    rw [outB7, coords1]

/-- The accumulator after a tile's first point. -/
theorem atS_A (c : Dev nD) (t : Fin cfg0.N) (h0 : t.val % 16 = 0) :
    (outsAt0 m c t.val t.isLt).2.2.2.2.2 = accStep (iblk m c 1 t) (iblk m c 2 t) (k0_pay3 (F := Ideal)) := by
  have h1 : ¬t.val % 16 = 15 := by omega
  rw [outsAt0_A m c t h0 h1]
  dsimp only
  rw [soutA]

/-- The accumulator after a later point. -/
theorem atS_S (c : Dev nD) (t : Fin cfg0.N) (h0 : ¬t.val % 16 = 0) :
    (outsAt0 m c t.val t.isLt).2.2.2.2.2 = accStep (iblk m c 1 t) (iblk m c 2 t)
      (outsAt0 m c (t.val - 1) (Nat.lt_of_le_of_lt (Nat.sub_le _ _) t.isLt)).2.2.2.2.2 := by
  by_cases h1 : t.val % 16 = 15
  · rw [outsAt0_C m c t h0 h1]
    dsimp only
    rw [soutC]
  · rw [outsAt0_B m c t h0 h1]
    dsimp only
    rw [soutB]

/-- The transposed activations' buffer after a tile's first point. -/
theorem at9_A (c : Dev nD) (t : Fin cfg0.N) (h0 : t.val % 16 = 0) :
    (outsAt0 m c t.val t.isLt).2.2.2.2.1 = k0_pay5 (iblk m c 3 t) (iblk m c 4 t) := by
  have h1 : ¬t.val % 16 = 15 := by omega
  rw [outsAt0_A m c t h0 h1]
  dsimp only
  rw [outA9]

/-- The transposed activations' buffer is left as it was by a later point. -/
theorem at9_S (c : Dev nD) (t : Fin cfg0.N) (h0 : ¬t.val % 16 = 0) :
    (outsAt0 m c t.val t.isLt).2.2.2.2.1 =
      (outsAt0 m c (t.val - 1) (Nat.lt_of_le_of_lt (Nat.sub_le _ _) t.isLt)).2.2.2.2.1 := by
  by_cases h1 : t.val % 16 = 15
  · rw [outsAt0_C m c t h0 h1]
  · rw [outsAt0_B m c t h0 h1]

/-- The result's buffer after a tile's last point. -/
theorem at5_C (c : Dev nD) (t : Fin cfg0.N) (h1 : t.val % 16 = 15) :
    (outsAt0 m c t.val t.isLt).1 = k0_pay2 (iblk m c 3 t) (outsAt0 m c t.val t.isLt).2.2.2.2.2
      ((iblk m c 0 t : Vec Ideal S1 .f32) (Shape.Idx.first (s := S1) (by decide))) := by
  have h0 : ¬t.val % 16 = 0 := by omega
  rw [outsAt0_C m c t h0 h1]
  dsimp only
  rw [outC5, soutC]

theorem pay3_zero (j : S1024x2560.Idx) : k0_pay3 (F := Ideal) j = (0 : EReal) := by
  unfold k0_pay3
  simp only [pointwise]

/-- The accumulator after every point: the sum over the chunks so far. -/
theorem acc_at (c : Dev nD) (p : Fin 1024) (q : Fin 2560) : ∀ (n : ℕ) (h : n < cfg0.N),
    ((outsAt0 m c n h).2.2.2.2.2 : Vec Ideal S1024x2560 .f32) (ix2 p q) =
      ∑ l ∈ Finset.range (1024 * (n % 16 + 1)), term (V m c main_v1) (V m c main_arg2) (rowOf (n / 16) (tile_lt n h) p) q l := by
  have start : ∀ (p : Fin 1024) (q : Fin 2560) (r : Fin 6144), k0_pay3 (F := Ideal) (ix2 p q) =
      ∑ l ∈ Finset.range (1024 * 0), term (V m c main_v1) (V m c main_arg2) r q l := by
    intro p q r
    rw [Nat.mul_zero, Finset.range_zero, Finset.sum_empty]
    exact pay3_zero _
  intro n
  induction n with
  | zero =>
    intro h
    refine (congrFun (atS_A m c ⟨0, h⟩ rfl) (ix2 p q)).trans ?_
    refine accStep_eq _ _ _ (V m c main_v1) (V m c main_arg2) (0 / 16) (0 % 16) (tile_lt 0 h) (chunk_lt 0) (blk1 m c ⟨0, h⟩) (blk2 m c ⟨0, h⟩) p q ?_
    exact start p q _
  | succ n ih =>
    intro h
    by_cases h0 : (n + 1) % 16 = 0
    · refine (congrFun (atS_A m c ⟨n + 1, h⟩ h0) (ix2 p q)).trans ?_
      refine accStep_eq _ _ _ (V m c main_v1) (V m c main_arg2) ((n + 1) / 16) ((n + 1) % 16) (tile_lt _ h) (chunk_lt _) (blk1 m c ⟨n + 1, h⟩) (blk2 m c ⟨n + 1, h⟩) p q ?_
      rw [h0]
      exact start p q _
    · refine (congrFun (atS_S m c ⟨n + 1, h⟩ h0) (ix2 p q)).trans ?_
      refine accStep_eq _ _ _ (V m c main_v1) (V m c main_arg2) ((n + 1) / 16) ((n + 1) % 16) (tile_lt _ h) (chunk_lt _) (blk1 m c ⟨n + 1, h⟩) (blk2 m c ⟨n + 1, h⟩) p q ?_
      refine (ih (Nat.lt_of_succ_lt h)).trans ?_
      have e1 : n % 16 + 1 = (n + 1) % 16 := by omega
      have e2 : rowOf (n / 16) (tile_lt n (Nat.lt_of_succ_lt h)) p = rowOf ((n + 1) / 16) (tile_lt _ h) p :=
        Fin.ext (by show 1024 * (n / 16) + p.val = 1024 * ((n + 1) / 16) + p.val; omega)
      rw [e1, e2]

/-- The scales after every point: the lanes of the chunks so far are filled. -/
theorem sc_at (c : Dev nD) (p : Fin 1024) (l : Fin 128) : ∀ (n : ℕ) (h : n < cfg0.N), l.val / 8 ≤ n % 16 →
    ((outsAt0 m c n h).2.2.1 : Vec Ideal S1024x128 .f32) (ix2 p l) =
      kscale (V m c main_v1) (ix2 (rowOf (n / 16) (tile_lt n h) p) l) := by
  have key : ∀ (t : Fin cfg0.N) (w : Vec Ideal S1024x128 .f32), l.val / 8 = t.val % 16 →
      scStep (t.val % 16) (iblk m c 1 t) w (ix2 p l) = kscale (V m c main_v1) (ix2 (rowOf (t.val / 16) (tile_lt t.val t.isLt) p) l) := by
    intro t w he
    unfold scStep kscale
    refine (if_pos he).trans (congrArg DxMath.sc ?_)
    refine (grp_gt _ (V m c main_v1) (t.val / 16) (t.val % 16) (tile_lt _ t.isLt) (chunk_lt _) (blk1 m c t) p (l.val % 8) (Nat.mod_lt _ (by decide))).trans ?_
    exact congrArg (gt (V m c main_v1) _) (by show 8 * (t.val % 16) + l.val % 8 = l.val; omega)
  intro n
  induction n with
  | zero =>
    intro h hl
    refine (congrFun (at7_A m c ⟨0, h⟩ rfl) (ix2 p l)).trans (key ⟨0, h⟩ _ ?_)
    show l.val / 8 = 0 % 16; omega
  | succ n ih =>
    intro h hl
    by_cases h0 : (n + 1) % 16 = 0
    · refine (congrFun (at7_A m c ⟨n + 1, h⟩ h0) (ix2 p l)).trans (key ⟨n + 1, h⟩ _ ?_)
      show l.val / 8 = (n + 1) % 16; omega
    · refine (congrFun (at7_S m c ⟨n + 1, h⟩ h0) (ix2 p l)).trans ?_
      by_cases he : l.val / 8 = (n + 1) % 16
      · exact key ⟨n + 1, h⟩ _ he
      · unfold scStep
        refine (if_neg he).trans ((ih (Nat.lt_of_succ_lt h) (by omega)).trans ?_)
        refine congrArg (fun r => kscale (V m c main_v1) (ix2 r l)) (Fin.ext ?_)
        show 1024 * (n / 16) + p.val = 1024 * ((n + 1) / 16) + p.val; omega

/-- The transposed activations after every point. -/
theorem xdt_at (c : Dev nD) (q : Fin 2560) (p : Fin 1024) : ∀ (n : ℕ) (h : n < cfg0.N),
    ((outsAt0 m c n h).2.2.2.2.1 : Vec Ideal S2560x1024 .bf16) (ix2 q p) =
      kxdt (V m c main_v2) (V m c main_v3) (ix2 q (rowOf (n / 16) (tile_lt n h) p)) := by
  have key : ∀ (t : Fin cfg0.N), k0_pay5 (F := Ideal) (iblk m c 3 t) (iblk m c 4 t) (ix2 q p) =
      kxdt (V m c main_v2) (V m c main_v3) (ix2 q (rowOf (t.val / 16) (tile_lt t.val t.isLt) p)) := by
    intro t
    refine (pay5_eq _ _ q p).trans ?_
    unfold kxdt
    exact congrArg₂ (fun a b : EReal => a * b) (congrArg (Scalar.sitofp (F := Ideal) .bf16) (blk3 m c t p q)) (blk4 m c t p 0)
  intro n
  induction n with
  | zero =>
    intro h
    exact (congrFun (at9_A m c ⟨0, h⟩ rfl) (ix2 q p)).trans (key ⟨0, h⟩)
  | succ n ih =>
    intro h
    by_cases h0 : (n + 1) % 16 = 0
    · exact (congrFun (at9_A m c ⟨n + 1, h⟩ h0) (ix2 q p)).trans (key ⟨n + 1, h⟩)
    · refine (congrFun (at9_S m c ⟨n + 1, h⟩ h0) (ix2 q p)).trans ((ih (Nat.lt_of_succ_lt h)).trans ?_)
      refine congrArg (fun r => kxdt (V m c main_v2) (V m c main_v3) (ix2 q r)) (Fin.ext ?_)
      show 1024 * (n / 16) + p.val = 1024 * ((n + 1) / 16) + p.val; omega

end Cert.KernelIdeal.Dx

end
-- ==== Proof.DxFin.lean ====
module

public import proofs.«01_k».proof.Proof.DxPoints

/-! The arrays the call leaves, as functions of its operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

theorem idx5 : ∀ t : Fin cfg0.N, win0_5.index t 0 = t.val / 16 ∧ win0_5.index t 1 = 0 := (by decide +kernel : ∀ t : Fin grid0.N, _)
theorem idx6 : ∀ t : Fin cfg0.N, win0_6.index t 0 = t.val / 16 ∧ win0_6.index t 1 = t.val % 16 := (by decide +kernel : ∀ t : Fin grid0.N, _)
theorem idx7 : ∀ t : Fin cfg0.N, win0_7.index t 0 = t.val / 16 ∧ win0_7.index t 1 = 0 := (by decide +kernel : ∀ t : Fin grid0.N, _)
theorem idx8 : ∀ t : Fin cfg0.N, win0_8.index t 0 = t.val / 16 ∧ win0_8.index t 1 = t.val % 16 := (by decide +kernel : ∀ t : Fin grid0.N, _)
theorem idx9 : ∀ t : Fin cfg0.N, win0_9.index t 0 = 0 ∧ win0_9.index t 1 = t.val / 16 := (by decide +kernel : ∀ t : Fin grid0.N, _)

end Cert.KernelIdeal.Dx

end
-- ==== Proof.DxFin5.lean ====
module

public import proofs.«01_k».proof.Proof.DxFin

/-! The array one output window leaves, as a function of the operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

variable (m : (ℓ : Loc nD τ sig) → Buf (Elt Ideal) ℓ)

/-- What point `t` leaves of the result, entry by entry. -/
theorem point5 (c : Dev nD) (t : Fin cfg0.N) (hf : t.val % 16 = 15) (j : S1024x2560.Idx) :
    ((outsAt0 m c t.val t.isLt).1 : Vec Ideal S1024x2560 .bf16) j = kdx (V m c main_v2) (V m c main_v0 (Shape.Idx.first (s := S1) (by decide))) (V m c main_v1) (V m c main_arg2) (ix2 (rowOf (t.val / 16) (tile_lt _ t.isLt) (j 0)) (j 1)) := by
    have hj : j = ix2 (j 0) (j 1) := by funext a; match a with | ⟨0, _⟩ => rfl | ⟨1, _⟩ => rfl
    refine (congrFun (at5_C m c t hf) j).trans ?_
    refine (pay2_eq _ _ _ j).trans ?_
    unfold kdx
    have h16 : 1024 * (t.val % 16 + 1) = 16384 := by omega
    refine congr (congr (congrArg dxSel ?_) ?_) ?_
    · exact (congrArg (iblk m c 3 t : Vec Ideal S1024x2560 .i8) hj).trans (blk3 m c t (j 0) (j 1))
    · refine (congrArg ((outsAt0 m c t.val t.isLt).2.2.2.2.2 : Vec Ideal S1024x2560 .f32) hj).trans ?_
      refine (acc_at m c (j 0) (j 1) t.val t.isLt).trans ?_
      rw [h16]
      rfl
    · exact blk0 m c t _

/-- The result the call leaves. -/
theorem final5 (c : Dev nD) : (dats m 0 c).arrAt 5 cfg0.N = kdx (V m c main_v2) (V m c main_v0 (Shape.Idx.first (s := S1) (by decide))) (V m c main_v1) (V m c main_arg2) := by
  refine (dats m 0 c).arrAt_eq_of_cover 5 _ (fun t hf => ?_) fun i => ?_
  · rw [flushed5]
    funext j
    rw [View.read_apply]
    refine (point5 m c t ((flush0_5 t).mp hf) j).trans (congrArg (kdx (V m c main_v2) (V m c main_v0 (Shape.Idx.first (s := S1) (by decide))) (V m c main_v1) (V m c main_arg2) : S6144x2560.Idx → EReal) (funext fun a => Fin.ext ?_))
    match a with
    | ⟨0, _⟩ => show 1024 * (t.val / 16) + (j 0).val = win0_5.index t 0 * 1024 + 1 * (j 0).val; rw [(idx5 t).1]; omega
    | ⟨1, _⟩ => show (j 1).val = win0_5.index t 1 * 2560 + 1 * (j 1).val; rw [(idx5 t).2]; omega
  · have hN : cfg0.N = 96 := N_0
    have h0 : (i 0 : Nat) < 6144 := (i 0).isLt
    have h1 : (i 1 : Nat) < 2560 := (i 1).isLt
    have ht : 16 * ((i 0 : Nat) / 1024) + 15 < cfg0.N := by rw [hN]; omega
    refine ⟨⟨16 * ((i 0 : Nat) / 1024) + 15, ht⟩, (flush0_5 _).mpr (by dsimp only; omega), ?_⟩
    show i ∈ ((View.whole main_v4_0).slice (win0_5.rect ⟨16 * ((i 0 : Nat) / 1024) + 15, ht⟩)).set
    rw [View.set_slice_whole, Rect.mem_set_unit]
    intro a
    match a with
    | ⟨0, _⟩ =>
      show win0_5.index _ 0 * 1024 ≤ (i 0 : Nat) ∧ (i 0 : Nat) < win0_5.index _ 0 * 1024 + 1024
      rw [(idx5 _).1]; dsimp only; omega
    | ⟨1, _⟩ =>
      show win0_5.index _ 1 * 2560 ≤ (i 1 : Nat) ∧ (i 1 : Nat) < win0_5.index _ 1 * 2560 + 2560
      rw [(idx5 _).2]; dsimp only; omega

end Cert.KernelIdeal.Dx

end
-- ==== Proof.DxFin6.lean ====
module

public import proofs.«01_k».proof.Proof.DxFin

/-! The array one output window leaves, as a function of the operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

variable (m : (ℓ : Loc nD τ sig) → Buf (Elt Ideal) ℓ)

/-- What point `t` leaves of the codes, entry by entry. -/
theorem point6 (c : Dev nD) (t : Fin cfg0.N) (j : S1024x1024.Idx) :
    ((outsAt0 m c t.val t.isLt).2.1 : Vec Ideal S1024x1024 .fp8e5m2) j = kcode (V m c main_v1) (ix2 (rowOf (t.val / 16) (tile_lt _ t.isLt) (j 0)) (colOf (t.val % 16) (chunk_lt _) (j 1))) := by
    have hj : j = ix2 (j 0) (j 1) := by funext a; match a with | ⟨0, _⟩ => rfl | ⟨1, _⟩ => rfl
    refine (congrFun (at6 m c t) j).trans ?_
    refine (congrArg (codeAt (iblk m c 1 t)) hj).trans ?_
    exact codeAt_eq _ (V m c main_v1) (t.val / 16) (t.val % 16) (tile_lt _ t.isLt) (chunk_lt _) (blk1 m c t) (j 0) (j 1)

/-- The codes the call leaves. -/
theorem final6 (c : Dev nD) : (dats m 0 c).arrAt 6 cfg0.N = kcode (V m c main_v1) := by
  refine (dats m 0 c).arrAt_eq_of_cover 6 _ (fun t hf => ?_) fun i => ?_
  · rw [flushed6]
    funext j
    rw [View.read_apply]
    refine (point6 m c t j).trans (congrArg (kcode (V m c main_v1) : S6144x16384.Idx → EReal) (funext fun a => Fin.ext ?_))
    match a with
    | ⟨0, _⟩ => show 1024 * (t.val / 16) + (j 0).val = win0_6.index t 0 * 1024 + 1 * (j 0).val; rw [(idx6 t).1]; omega
    | ⟨1, _⟩ => show 1024 * (t.val % 16) + (j 1).val = win0_6.index t 1 * 1024 + 1 * (j 1).val; rw [(idx6 t).2]; omega
  · have hN : cfg0.N = 96 := N_0
    have h0 : (i 0 : Nat) < 6144 := (i 0).isLt
    have h1 : (i 1 : Nat) < 16384 := (i 1).isLt
    have ht : 16 * ((i 0 : Nat) / 1024) + (i 1 : Nat) / 1024 < cfg0.N := by rw [hN]; omega
    refine ⟨⟨16 * ((i 0 : Nat) / 1024) + (i 1 : Nat) / 1024, ht⟩, flush0_6 _, ?_⟩
    show i ∈ ((View.whole main_v4_1).slice (win0_6.rect ⟨16 * ((i 0 : Nat) / 1024) + (i 1 : Nat) / 1024, ht⟩)).set
    rw [View.set_slice_whole, Rect.mem_set_unit]
    intro a
    match a with
    | ⟨0, _⟩ =>
      show win0_6.index _ 0 * 1024 ≤ (i 0 : Nat) ∧ (i 0 : Nat) < win0_6.index _ 0 * 1024 + 1024
      rw [(idx6 _).1]; dsimp only; omega
    | ⟨1, _⟩ =>
      show win0_6.index _ 1 * 1024 ≤ (i 1 : Nat) ∧ (i 1 : Nat) < win0_6.index _ 1 * 1024 + 1024
      rw [(idx6 _).2]; dsimp only; omega

end Cert.KernelIdeal.Dx

end
-- ==== Proof.DxFin7.lean ====
module

public import proofs.«01_k».proof.Proof.DxFin

/-! The array one output window leaves, as a function of the operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

variable (m : (ℓ : Loc nD τ sig) → Buf (Elt Ideal) ℓ)

/-- What point `t` leaves of the scales, entry by entry. -/
theorem point7 (c : Dev nD) (t : Fin cfg0.N) (hf : t.val % 16 = 15) (j : S1024x128.Idx) :
    ((outsAt0 m c t.val t.isLt).2.2.1 : Vec Ideal S1024x128 .f32) j = kscale (V m c main_v1) (ix2 (rowOf (t.val / 16) (tile_lt _ t.isLt) (j 0)) (j 1)) := by
    have hj : j = ix2 (j 0) (j 1) := by funext a; match a with | ⟨0, _⟩ => rfl | ⟨1, _⟩ => rfl
    refine (congrArg ((outsAt0 m c t.val t.isLt).2.2.1 : Vec Ideal S1024x128 .f32) hj).trans ?_
    refine sc_at m c (j 0) (j 1) t.val t.isLt ?_
    have h1 : (j 1).val < 128 := (j 1).isLt
    omega

/-- The scales the call leaves. -/
theorem final7 (c : Dev nD) : (dats m 0 c).arrAt 7 cfg0.N = kscale (V m c main_v1) := by
  have hp := point7 m c
  generalize kscale (V m c main_v1) = G at hp ⊢
  refine (dats m 0 c).arrAt_eq_of_cover 7 _ (fun t hf => ?_) fun i => ?_
  · rw [flushed7]
    funext j
    rw [View.read_apply]
    refine (hp t ((flush0_7 t).mp hf) j).trans ?_
    rw [cast_eq]
    refine congrArg G ?_
    funext a
    refine Fin.ext ?_
    match a with
    | ⟨0, _⟩ => show 1024 * (t.val / 16) + (j 0).val = win0_7.index t 0 * 1024 + 1 * (j 0).val; rw [(idx7 t).1]; omega
    | ⟨1, _⟩ => show (j 1).val = win0_7.index t 1 * 128 + 1 * (j 1).val; rw [(idx7 t).2]; omega
  · have hN : cfg0.N = 96 := N_0
    have h0 : (i 0 : Nat) < 6144 := (i 0).isLt
    have h1 : (i 1 : Nat) < 128 := (i 1).isLt
    have ht : 16 * ((i 0 : Nat) / 1024) + 15 < cfg0.N := by rw [hN]; omega
    refine ⟨⟨16 * ((i 0 : Nat) / 1024) + 15, ht⟩, (flush0_7 _).mpr (by dsimp only; omega), ?_⟩
    show i ∈ ((View.whole main_v4_2).slice (win0_7.rect ⟨16 * ((i 0 : Nat) / 1024) + 15, ht⟩)).set
    rw [View.set_slice_whole, Rect.mem_set_unit]
    intro a
    match a with
    | ⟨0, _⟩ =>
      show win0_7.index _ 0 * 1024 ≤ (i 0 : Nat) ∧ (i 0 : Nat) < win0_7.index _ 0 * 1024 + 1024
      rw [(idx7 _).1]; dsimp only; omega
    | ⟨1, _⟩ =>
      show win0_7.index _ 1 * 128 ≤ (i 1 : Nat) ∧ (i 1 : Nat) < win0_7.index _ 1 * 128 + 128
      rw [(idx7 _).2]; dsimp only; omega

end Cert.KernelIdeal.Dx

end
-- ==== Proof.DxFin8.lean ====
module

public import proofs.«01_k».proof.Proof.DxFin

/-! The array one output window leaves, as a function of the operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

variable (m : (ℓ : Loc nD τ sig) → Buf (Elt Ideal) ℓ)

/-- What point `t` leaves of the dequantised values, entry by entry. -/
theorem point8 (c : Dev nD) (t : Fin cfg0.N) (j : S1024x1024.Idx) :
    ((outsAt0 m c t.val t.isLt).2.2.2.1 : Vec Ideal S1024x1024 .bf16) j = kdq (V m c main_v1) (ix2 (rowOf (t.val / 16) (tile_lt _ t.isLt) (j 0)) (colOf (t.val % 16) (chunk_lt _) (j 1))) := by
    have hj : j = ix2 (j 0) (j 1) := by funext a; match a with | ⟨0, _⟩ => rfl | ⟨1, _⟩ => rfl
    refine (congrFun (at8 m c t) j).trans ?_
    refine (congrArg (dqAt (iblk m c 1 t)) hj).trans ?_
    exact dqAt_eq _ (V m c main_v1) (t.val / 16) (t.val % 16) (tile_lt _ t.isLt) (chunk_lt _) (blk1 m c t) (j 0) (j 1)

/-- The dequantised values the call leaves. -/
theorem final8 (c : Dev nD) : (dats m 0 c).arrAt 8 cfg0.N = kdq (V m c main_v1) := by
  refine (dats m 0 c).arrAt_eq_of_cover 8 _ (fun t hf => ?_) fun i => ?_
  · rw [flushed8]
    funext j
    rw [View.read_apply]
    refine (point8 m c t j).trans (congrArg (kdq (V m c main_v1) : S6144x16384.Idx → EReal) (funext fun a => Fin.ext ?_))
    match a with
    | ⟨0, _⟩ => show 1024 * (t.val / 16) + (j 0).val = win0_8.index t 0 * 1024 + 1 * (j 0).val; rw [(idx8 t).1]; omega
    | ⟨1, _⟩ => show 1024 * (t.val % 16) + (j 1).val = win0_8.index t 1 * 1024 + 1 * (j 1).val; rw [(idx8 t).2]; omega
  · have hN : cfg0.N = 96 := N_0
    have h0 : (i 0 : Nat) < 6144 := (i 0).isLt
    have h1 : (i 1 : Nat) < 16384 := (i 1).isLt
    have ht : 16 * ((i 0 : Nat) / 1024) + (i 1 : Nat) / 1024 < cfg0.N := by rw [hN]; omega
    refine ⟨⟨16 * ((i 0 : Nat) / 1024) + (i 1 : Nat) / 1024, ht⟩, flush0_8 _, ?_⟩
    show i ∈ ((View.whole main_v4_3).slice (win0_8.rect ⟨16 * ((i 0 : Nat) / 1024) + (i 1 : Nat) / 1024, ht⟩)).set
    rw [View.set_slice_whole, Rect.mem_set_unit]
    intro a
    match a with
    | ⟨0, _⟩ =>
      show win0_8.index _ 0 * 1024 ≤ (i 0 : Nat) ∧ (i 0 : Nat) < win0_8.index _ 0 * 1024 + 1024
      rw [(idx8 _).1]; dsimp only; omega
    | ⟨1, _⟩ =>
      show win0_8.index _ 1 * 1024 ≤ (i 1 : Nat) ∧ (i 1 : Nat) < win0_8.index _ 1 * 1024 + 1024
      rw [(idx8 _).2]; dsimp only; omega

end Cert.KernelIdeal.Dx

end
-- ==== Proof.DxFin9.lean ====
module

public import proofs.«01_k».proof.Proof.DxFin

/-! The array one output window leaves, as a function of the operands. -/

@[expose] public section

set_option maxRecDepth 65536

noncomputable section

namespace Cert.KernelIdeal.Dx

open Cert.KernelIdeal Cert.KernelIdeal.Gen
open Idealize.ShloMosaic Idealize.ShloMosaic.TcCoe Idealize.SL.Sem

variable (m : (ℓ : Loc nD τ sig) → Buf (Elt Ideal) ℓ)

/-- What point `t` leaves of the transposed activations, entry by entry. -/
theorem point9 (c : Dev nD) (t : Fin cfg0.N) (hf : t.val % 16 = 15) (j : S2560x1024.Idx) :
    ((outsAt0 m c t.val t.isLt).2.2.2.2.1 : Vec Ideal S2560x1024 .bf16) j = kxdt (V m c main_v2) (V m c main_v3) (ix2 (j 0) (rowOf (t.val / 16) (tile_lt _ t.isLt) (j 1))) := by
    have hj : j = ix2 (j 0) (j 1) := by funext a; match a with | ⟨0, _⟩ => rfl | ⟨1, _⟩ => rfl
    refine (congrArg ((outsAt0 m c t.val t.isLt).2.2.2.2.1 : Vec Ideal S2560x1024 .bf16) hj).trans ?_
    exact xdt_at m c (j 0) (j 1) t.val t.isLt

/-- The transposed activations the call leaves. -/
theorem final9 (c : Dev nD) : (dats m 0 c).arrAt 9 cfg0.N = kxdt (V m c main_v2) (V m c main_v3) := by
  refine (dats m 0 c).arrAt_eq_of_cover 9 _ (fun t hf => ?_) fun i => ?_
  · rw [flushed9]
    funext j
    rw [View.read_apply]
    refine (point9 m c t ((flush0_9 t).mp hf) j).trans (congrArg (kxdt (V m c main_v2) (V m c main_v3) : S2560x6144.Idx → EReal) (funext fun a => Fin.ext ?_))
    match a with
    | ⟨0, _⟩ => show (j 0).val = win0_9.index t 0 * 2560 + 1 * (j 0).val; rw [(idx9 t).1]; omega
    | ⟨1, _⟩ => show 1024 * (t.val / 16) + (j 1).val = win0_9.index t 1 * 1024 + 1 * (j 1).val; rw [(idx9 t).2]; omega
  · have hN : cfg0.N = 96 := N_0
    have h0 : (i 0 : Nat) < 2560 := (i 0).isLt
    have h1 : (i 1 : Nat) < 6144 := (i 1).isLt
    have ht : 16 * ((i 1 : Nat) / 1024) + 15 < cfg0.N := by rw [hN]; omega
    refine ⟨⟨16 * ((i 1 : Nat) / 1024) + 15, ht⟩, (flush0_9 _).mpr (by dsimp only; omega), ?_⟩
    show i ∈ ((View.whole main_v4_4).slice (win0_9.rect ⟨16 * ((i 1 : Nat) / 1024) + 15, ht⟩)).set
    rw [View.set_slice_whole, Rect.mem_set_unit]
    intro a
    match a with
    | ⟨0, _⟩ =>
      show win0_9.index _ 0 * 2560 ≤ (i 0 : Nat) ∧ (i 0 : Nat) < win0_9.index _ 0 * 2560 + 2560
      rw [(idx9 _).1]; dsimp only; omega
    | ⟨1, _⟩ =>
      show win0_9.index _ 1 * 1024 ≤ (i 1 : Nat) ∧ (i 1 : Nat) < win0_9.index _ 1 * 1024 + 1024
      rw [(idx9 _).2]; dsimp only; omega

end Cert.KernelIdeal.Dx

end
-- ==== Proof.RefW.lean ====
module

public import proofs.«01_k».proof.Proof.Gen.ReferenceIdeal.Frame
public import proofs.«01_k».proof.Proof.DxTern
public import Idealize.ShloMosaic.Lib.Claim
public import Idealize.ShloMosaic.Lib.StableHlo.ReadAt

/-! The weights the reference's host lines unpack, at an index. -/

@[expose] public section

noncomputable section

namespace Cert.ReferenceIdeal.Dx

open Cert.ReferenceIdeal Cert.ReferenceIdeal.Gen
open Idealize.ShloMosaic Idealize.ShloMosaic.TcCoe Idealize.SL.Sem

theorem field_all : ∀ n : Fin 256, ∀ f : Fin 4,
    IntOp.andi (IntOp.shrsi .host (BitVec.setWidth 32 (BitVec.ofNat 8 n.val)) (BitVec.ofNat 32 (2 * f.val))) 3#32 = DxTern.field (BitVec.ofNat 8 n.val) f.val := by
  decide +kernel

theorem field_host (v : BitVec 8) (f : ℕ) (hf : f < 4) (s : BitVec 32) (hs : s = BitVec.ofNat 32 (2 * f)) :
    IntOp.andi (IntOp.shrsi .host (BitVec.setWidth 32 v) s) 3#32 = DxTern.field v f := by
  subst hs
  have h := field_all ⟨v.toNat, v.isLt⟩ ⟨f, hf⟩
  simpa using h

theorem ofBits_BF80 : Ideal.ofBits .f32 3212836864#32 = ((-(1 : ℝ) : ℝ) : EReal) := by
  simp [Ideal.ofBits, Ideal.ieee]
  rw [← EReal.coe_mul]; norm_num

theorem trit_sel (v : BitVec 8) (f : ℕ) (w : BitVec 32) (hw : w = DxTern.field v f) :
    Scalar.select (IntOp.cmpi .eq w 1#32) (1 : EReal) (Scalar.select (IntOp.cmpi .eq w 2#32) (Ideal.ofBits .f32 3212836864#32) 0) = DxTern.trit v f := by
  subst hw
  rw [ofBits_BF80]
  unfold DxTern.trit
  generalize DxTern.field v f = w
  by_cases h1 : w = 1#32
  · subst h1; rfl
  · rw [if_neg h1]
    have e1 : IntOp.cmpi .eq w 1#32 = 0#1 := by
      show BitVec.ofBool (w == 1#32) = 0#1
      rw [beq_false_of_ne h1]; rfl
    rw [e1]
    by_cases h2 : w = 2#32
    · subst h2; rfl
    · rw [if_neg h2]
      have e2 : IntOp.cmpi .eq w 2#32 = 0#1 := by
        show BitVec.ofBool (w == 2#32) = 0#1
        rw [beq_false_of_ne h2]; rfl
      rw [e2]; rfl

variable (m : (ℓ : Loc nD τ sig) → Buf (Elt Ideal) ℓ)

/-- The unpacked weights. -/
theorem weights (c : Dev nD) (j : S2560x16384.Idx) : V m c main_v55 j =
    DxTern.trit (m ((c : Thread nD τ).loc main_arg2) (ix2 ⟨(j 0).val / 4, by have h : (j 0).val < 2560 := (j 0).isLt; omega⟩ (j 1))) ((j 0).val % 4) := by
  have hlt := Nat.mod_lt (j 0).val (show 0 < 4 by decide)
  unfold V
  after_reads_at
  split
  · after_reads_at
    exact trit_sel _ _ _ (field_host _ _ hlt _ (by rw [show (j 0).val % 4 = 0 by omega]))
  · split
    · after_reads_at
      exact trit_sel _ _ _ (field_host _ _ hlt _ (by rw [show (j 0).val % 4 = 1 by omega]))
    · split
      · after_reads_at
        exact trit_sel _ _ _ (field_host _ _ hlt _ (by rw [show (j 0).val % 4 = 2 by omega]))
      · after_reads_at
        exact trit_sel _ _ _ (field_host _ _ hlt _ (by rw [show (j 0).val % 4 = 3 by omega]))

end Cert.ReferenceIdeal.Dx

end
-- ==== Proof.RefBlocks.lean ====
module

public import proofs.«01_k».proof.Proof.Gen.ReferenceIdeal.Frame
public import Idealize.ShloMosaic.Lib.Pipeline.Value

/-! The reference's run with each output array after it named, and what its one point writes back. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output window 5. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- What point `t` writes back to output window 6. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- What point `t` writes back to output window 7. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- What point `t` writes back to output window 8. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- What point `t` writes back to output window 9. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- After the run, the array of output window 5. -/
theorem post5 (r : PUnit × MemSt nD τ sig (Elt F)) (h : Pipeline.FramePost cfgs (dats m) 0 (V m) r) (c : Dev nD) :
    r.2.mem ((c : Thread nD τ).loc main_v58_0) = (dats m 0 c).arrAt 5 cfg0.N :=
  (h c).1 5

/-- After the run, the array of output window 6. -/
theorem post6 (r : PUnit × MemSt nD τ sig (Elt F)) (h : Pipeline.FramePost cfgs (dats m) 0 (V m) r) (c : Dev nD) :
    r.2.mem ((c : Thread nD τ).loc main_v58_1) = (dats m 0 c).arrAt 6 cfg0.N :=
  (h c).1 6

/-- After the run, the array of output window 7. -/
theorem post7 (r : PUnit × MemSt nD τ sig (Elt F)) (h : Pipeline.FramePost cfgs (dats m) 0 (V m) r) (c : Dev nD) :
    r.2.mem ((c : Thread nD τ).loc main_v58_2) = (dats m 0 c).arrAt 7 cfg0.N :=
  (h c).1 7

/-- After the run, the array of output window 8. -/
theorem post8 (r : PUnit × MemSt nD τ sig (Elt F)) (h : Pipeline.FramePost cfgs (dats m) 0 (V m) r) (c : Dev nD) :
    r.2.mem ((c : Thread nD τ).loc main_v58_3) = (dats m 0 c).arrAt 8 cfg0.N :=
  (h c).1 8

/-- After the run, the array of output window 9. -/
theorem post9 (r : PUnit × MemSt nD τ sig (Elt F)) (h : Pipeline.FramePost cfgs (dats m) 0 (V m) r) (c : Dev nD) :
    r.2.mem ((c : Thread nD τ).loc main_v58_4) = (dats m 0 c).arrAt 9 cfg0.N :=
  (h c).1 9

/-- The run leaves argument 0 as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves argument 1 as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run leaves argument 2 as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves argument 3 as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves argument 4 as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, each output array named, the arguments unchanged. -/
theorem run_blocks : θ_run defs (onTc (τ := τ) (main (F := F))) ⟨m, fun _ => 0, ρ⟩ fun r => ∀ c : Dev nD,
      r.2.mem ((c : Thread nD τ).loc main_v58_0) = (dats m 0 c).arrAt 5 cfg0.N
      ∧ r.2.mem ((c : Thread nD τ).loc main_v58_1) = (dats m 0 c).arrAt 6 cfg0.N
      ∧ r.2.mem ((c : Thread nD τ).loc main_v58_2) = (dats m 0 c).arrAt 7 cfg0.N
      ∧ r.2.mem ((c : Thread nD τ).loc main_v58_3) = (dats m 0 c).arrAt 8 cfg0.N
      ∧ r.2.mem ((c : Thread nD τ).loc main_v58_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.ReferenceIdeal.Dx

end
-- ==== Proof.RefWhole.lean ====
module

public import proofs.«01_k».proof.Proof.RefBlocks
public import proofs.«01_k».proof.Proof.RefVals

/-! The reference's blocks at its one point are whole arrays, and what it stores is a payload. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

theorem hz : (![0, 0] : Fin 2 → ℕ) = fun _ => 0 := by
  funext a
  match a with
  | ⟨0, _⟩ => rfl
  | ⟨1, _⟩ => rfl

theorem idx0 : ∀ t : Fin cfg0.N, win0_0.index t 0 = 0 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)

variable (m : (ℓ : Loc nD τ sig) → Buf (Elt Ideal) ℓ)

/-- Block 0 is the whole array. -/
theorem blk0 (c : Dev nD) (t : Fin cfg0.N) : (iblk m c 0 t : Vec Ideal S1x1 .f32) = V m c main_v53 := by
  funext j
  unfold iblk
  rw [View.read_apply]
  show V m c main_v53 _ = V m c main_v53 _
  congr 1
  funext a
  apply Fin.ext
  match a with
  | ⟨0, _⟩ => show win0_0.index t 0 * 1 + 1 * (j 0).val = (j 0).val; rw [(idx0 t).1]; omega
  | ⟨1, _⟩ => show win0_0.index t 1 * 1 + 1 * (j 1).val = (j 1).val; rw [(idx0 t).2]; omega

/-- Block 1 is the whole array. -/
theorem blk1 (c : Dev nD) (t : Fin cfg0.N) : (iblk m c 1 t : Vec Ideal S6144x16384 .bf16) = V m c main_v54 := by
  funext j
  unfold iblk
  rw [View.read_apply]
  show V m c main_v54 _ = V m c main_v54 _
  congr 1
  funext a
  apply Fin.ext
  match a with
  | ⟨0, _⟩ => show win0_1.index t 0 * 6144 + 1 * (j 0).val = (j 0).val; rw [(idx1 t).1]; omega
  | ⟨1, _⟩ => show win0_1.index t 1 * 16384 + 1 * (j 1).val = (j 1).val; rw [(idx1 t).2]; omega

/-- Block 2 is the whole array. -/
theorem blk2 (c : Dev nD) (t : Fin cfg0.N) : (iblk m c 2 t : Vec Ideal S2560x16384 .bf16) = V m c main_v55 := by
  funext j
  unfold iblk
  rw [View.read_apply]
  show V m c main_v55 _ = V m c main_v55 _
  congr 1
  funext a
  apply Fin.ext
  match a with
  | ⟨0, _⟩ => show win0_2.index t 0 * 2560 + 1 * (j 0).val = (j 0).val; rw [(idx2 t).1]; omega
  | ⟨1, _⟩ => show win0_2.index t 1 * 16384 + 1 * (j 1).val = (j 1).val; rw [(idx2 t).2]; omega

/-- Block 3 is the whole array. -/
theorem blk3 (c : Dev nD) (t : Fin cfg0.N) : (iblk m c 3 t : Vec Ideal S6144x2560 .i8) = V m c main_v56 := by
  funext j
  unfold iblk
  rw [View.read_apply]
  show V m c main_v56 _ = V m c main_v56 _
  congr 1
  funext a
  apply Fin.ext
  match a with
  | ⟨0, _⟩ => show win0_3.index t 0 * 6144 + 1 * (j 0).val = (j 0).val; rw [(idx3 t).1]; omega
  | ⟨1, _⟩ => show win0_3.index t 1 * 2560 + 1 * (j 1).val = (j 1).val; rw [(idx3 t).2]; omega

/-- Block 4 is the whole array. -/
theorem blk4 (c : Dev nD) (t : Fin cfg0.N) : (iblk m c 4 t : Vec Ideal S6144x1 .f32) = V m c main_v57 := by
  funext j
  unfold iblk
  rw [View.read_apply]
  show V m c main_v57 _ = V m c main_v57 _
  congr 1
  funext a
  apply Fin.ext
  match a with
  | ⟨0, _⟩ => show win0_4.index t 0 * 6144 + 1 * (j 0).val = (j 0).val; rw [(idx4 t).1]; omega
  | ⟨1, _⟩ => show win0_4.index t 1 * 1 + 1 * (j 1).val = (j 1).val; rw [(idx4 t).2]; omega

theorem out5_eq (x0 : Vec Ideal S1x1 .f32) (x1 : Vec Ideal S6144x16384 .bf16) (x2 : Vec Ideal S2560x16384 .bf16) (x3 : Vec Ideal S6144x2560 .i8) (x4 : Vec Ideal S6144x1 .f32) :
    out0_5 x0 x1 x2 x3 x4 = k0_pay1 (k0_pay9 x1 x2) x0 x3 := by
  unfold out0_5
  rw [View.canon_unit_zero hz]
  simp only [View.ld_unit_zero (S := S1x1) hz, View.ld_unit_zero (S := S6144x16384) hz, View.ld_unit_zero (S := S2560x16384) hz, View.ld_unit_zero (S := S6144x2560) hz]

theorem out6_eq (x0 : Vec Ideal S1x1 .f32) (x1 : Vec Ideal S6144x16384 .bf16) (x2 : Vec Ideal S2560x16384 .bf16) (x3 : Vec Ideal S6144x2560 .i8) (x4 : Vec Ideal S6144x1 .f32) :
    out0_6 x0 x1 x2 x3 x4 = k0_pay2 (k0_pay7 x1) := by
  unfold out0_6
  rw [View.canon_unit_zero hz]
  simp only [View.ld_unit_zero (S := S6144x16384) hz]

theorem out7_eq (x0 : Vec Ideal S1x1 .f32) (x1 : Vec Ideal S6144x16384 .bf16) (x2 : Vec Ideal S2560x16384 .bf16) (x3 : Vec Ideal S6144x2560 .i8) (x4 : Vec Ideal S6144x1 .f32) :
    out0_7 x0 x1 x2 x3 x4 = k0_pay6 x1 := by
  unfold out0_7
  rw [View.canon_unit_zero hz]
  simp only [View.ld_unit_zero (S := S6144x16384) hz]

theorem out8_eq (x0 : Vec Ideal S1x1 .f32) (x1 : Vec Ideal S6144x16384 .bf16) (x2 : Vec Ideal S2560x16384 .bf16) (x3 : Vec Ideal S6144x2560 .i8) (x4 : Vec Ideal S6144x1 .f32) :
    out0_8 x0 x1 x2 x3 x4 = k0_pay8 x1 := by
  unfold out0_8
  rw [View.canon_unit_zero hz]
  simp only [View.ld_unit_zero (S := S6144x16384) hz]

theorem out9_eq (x0 : Vec Ideal S1x1 .f32) (x1 : Vec Ideal S6144x16384 .bf16) (x2 : Vec Ideal S2560x16384 .bf16) (x3 : Vec Ideal S6144x2560 .i8) (x4 : Vec Ideal S6144x1 .f32) :
    out0_9 x0 x1 x2 x3 x4 = k0_pay3 x3 x4 := by
  unfold out0_9
  rw [View.canon_unit_zero hz]
  simp only [View.ld_unit_zero (S := S6144x2560) hz, View.ld_unit_zero (S := S6144x1) hz]

end Cert.ReferenceIdeal.Dx

end
-- ==== Proof.RefFin5.lean ====
module

public import proofs.«01_k».proof.Proof.RefWhole

/-! Array 1 of the reference after its run. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- The one point writes back every entry. -/
theorem cover5 (ht : 0 < cfg0.N) (i : S6144x2560.Idx) : i ∈ ((cfg0.win 5).blk ⟨0, ht⟩).view.set := by
  have h0 : (i 0 : Nat) < 6144 := (i 0).isLt
  have h1 : (i 1 : Nat) < 2560 := (i 1).isLt
  show i ∈ ((View.whole main_v58_0).slice (win0_5.rect ⟨0, ht⟩)).set
  rw [View.set_slice_whole, Rect.mem_set_unit]
  intro a
  match a with
  | ⟨0, _⟩ =>
    show win0_5.index ⟨0, ht⟩ 0 * 6144 ≤ (i 0 : Nat) ∧ (i 0 : Nat) < win0_5.index ⟨0, ht⟩ 0 * 6144 + 6144
    rw [(idx5 ⟨0, ht⟩).1]; omega
  | ⟨1, _⟩ =>
    show win0_5.index ⟨0, ht⟩ 1 * 2560 ≤ (i 1 : Nat) ∧ (i 1 : Nat) < win0_5.index ⟨0, ht⟩ 1 * 2560 + 2560
    rw [(idx5 ⟨0, ht⟩).2]; omega

/-- Array 1 the reference leaves. -/
theorem final5 (c : Dev nD) : (dats m 0 c).arrAt 5 cfg0.N = k0_pay1 (k0_pay9 (V m c main_v54) (V m c main_v55)) (V m c main_v53) (V m c main_v56) := by
  have hp : ∀ t : Fin cfg0.N, (dats m 0 c).flushed 5 t = (cfg0.win 5).cut (grid0.coords t) (k0_pay1 (k0_pay9 (V m c main_v54) (V m c main_v55)) (V m c main_v53) (V m c main_v56)) := fun t => by
    rw [flushed5, out5_eq, blk0, blk1, blk2, blk3]
  generalize k0_pay1 (k0_pay9 (V m c main_v54) (V m c main_v55)) (V m c main_v53) (V m c main_v56) = G at hp ⊢
  refine (dats m 0 c).arrAt_eq_of_cover 5 _ (fun t hf => ?_) fun i => ?_
  · rw [hp]
    funext j
    rw [View.read_apply, cast_eq]
    show G j = G _
    refine congrArg G ?_
    funext a
    refine Fin.ext ?_
    match a with
    | ⟨0, _⟩ => show (j 0).val = win0_5.index t 0 * 6144 + 1 * (j 0).val; rw [(idx5 t).1]; omega
    | ⟨1, _⟩ => show (j 1).val = win0_5.index t 1 * 2560 + 1 * (j 1).val; rw [(idx5 t).2]; omega
  · exact ⟨⟨0, by decide⟩, flush0_5 _, cover5 _ i⟩

end Cert.ReferenceIdeal.Dx

end
-- ==== Proof.RefFin6.lean ====
module

public import proofs.«01_k».proof.Proof.RefWhole

/-! Array 2 of the reference after its run. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Array 2 the reference leaves. -/
theorem final6 (c : Dev nD) : (dats m 0 c).arrAt 6 cfg0.N = k0_pay2 (k0_pay7 (V m c main_v54)) := by
  refine (dats m 0 c).arrAt_eq_of_cover 6 _ (fun t hf => ?_) fun i => ?_
  · rw [flushed6, out6_eq, blk1]
    generalize k0_pay2 (k0_pay7 (V m c main_v54)) = G
    funext j
    rw [View.read_apply, cast_eq]
    show G j = G _
    refine congrArg G ?_
    funext a
    refine Fin.ext ?_
    match a with
    | ⟨0, _⟩ => show (j 0).val = win0_6.index t 0 * 6144 + 1 * (j 0).val; rw [(idx6 t).1]; omega
    | ⟨1, _⟩ => show (j 1).val = win0_6.index t 1 * 16384 + 1 * (j 1).val; rw [(idx6 t).2]; omega
  · have h0 : (i 0 : Nat) < 6144 := (i 0).isLt
    have h1 : (i 1 : Nat) < 16384 := (i 1).isLt
    have ht : 0 < cfg0.N := by decide
    refine ⟨⟨0, ht⟩, flush0_6 _, ?_⟩
    show i ∈ ((View.whole main_v58_1).slice (win0_6.rect ⟨0, ht⟩)).set
    rw [View.set_slice_whole, Rect.mem_set_unit]
    intro a
    match a with
    | ⟨0, _⟩ =>
      show win0_6.index _ 0 * 6144 ≤ (i 0 : Nat) ∧ (i 0 : Nat) < win0_6.index _ 0 * 6144 + 6144
      rw [(idx6 _).1]; omega
    | ⟨1, _⟩ =>
      show win0_6.index _ 1 * 16384 ≤ (i 1 : Nat) ∧ (i 1 : Nat) < win0_6.index _ 1 * 16384 + 16384
      rw [(idx6 _).2]; omega

end Cert.ReferenceIdeal.Dx

end
-- ==== Proof.RefFin7.lean ====
module

public import proofs.«01_k».proof.Proof.RefWhole

/-! Array 3 of the reference after its run. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Array 3 the reference leaves. -/
theorem final7 (c : Dev nD) : (dats m 0 c).arrAt 7 cfg0.N = k0_pay6 (V m c main_v54) := by
  refine (dats m 0 c).arrAt_eq_of_cover 7 _ (fun t hf => ?_) fun i => ?_
  · rw [flushed7, out7_eq, blk1]
    generalize k0_pay6 (V m c main_v54) = G
    funext j
    rw [View.read_apply, cast_eq]
    show G j = G _
    refine congrArg G ?_
    funext a
    refine Fin.ext ?_
    match a with
    | ⟨0, _⟩ => show (j 0).val = win0_7.index t 0 * 6144 + 1 * (j 0).val; rw [(idx7 t).1]; omega
    | ⟨1, _⟩ => show (j 1).val = win0_7.index t 1 * 128 + 1 * (j 1).val; rw [(idx7 t).2]; omega
  · have h0 : (i 0 : Nat) < 6144 := (i 0).isLt
    have h1 : (i 1 : Nat) < 128 := (i 1).isLt
    have ht : 0 < cfg0.N := by decide
    refine ⟨⟨0, ht⟩, flush0_7 _, ?_⟩
    show i ∈ ((View.whole main_v58_2).slice (win0_7.rect ⟨0, ht⟩)).set
    rw [View.set_slice_whole, Rect.mem_set_unit]
    intro a
    match a with
    | ⟨0, _⟩ =>
      show win0_7.index _ 0 * 6144 ≤ (i 0 : Nat) ∧ (i 0 : Nat) < win0_7.index _ 0 * 6144 + 6144
      rw [(idx7 _).1]; omega
    | ⟨1, _⟩ =>
      show win0_7.index _ 1 * 128 ≤ (i 1 : Nat) ∧ (i 1 : Nat) < win0_7.index _ 1 * 128 + 128
      rw [(idx7 _).2]; omega

end Cert.ReferenceIdeal.Dx

end
-- ==== Proof.RefFin8.lean ====
module

public import proofs.«01_k».proof.Proof.RefWhole

/-! Array 4 of the reference after its run. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Array 4 the reference leaves. -/
theorem final8 (c : Dev nD) : (dats m 0 c).arrAt 8 cfg0.N = k0_pay8 (V m c main_v54) := by
  refine (dats m 0 c).arrAt_eq_of_cover 8 _ (fun t hf => ?_) fun i => ?_
  · rw [flushed8, out8_eq, blk1]
    generalize k0_pay8 (V m c main_v54) = G
    funext j
    rw [View.read_apply, cast_eq]
    show G j = G _
    refine congrArg G ?_
    funext a
    refine Fin.ext ?_
    match a with
    | ⟨0, _⟩ => show (j 0).val = win0_8.index t 0 * 6144 + 1 * (j 0).val; rw [(idx8 t).1]; omega
    | ⟨1, _⟩ => show (j 1).val = win0_8.index t 1 * 16384 + 1 * (j 1).val; rw [(idx8 t).2]; omega
  · have h0 : (i 0 : Nat) < 6144 := (i 0).isLt
    have h1 : (i 1 : Nat) < 16384 := (i 1).isLt
    have ht : 0 < cfg0.N := by decide
    refine ⟨⟨0, ht⟩, flush0_8 _, ?_⟩
    show i ∈ ((View.whole main_v58_3).slice (win0_8.rect ⟨0, ht⟩)).set
    rw [View.set_slice_whole, Rect.mem_set_unit]
    intro a
    match a with
    | ⟨0, _⟩ =>
      show win0_8.index _ 0 * 6144 ≤ (i 0 : Nat) ∧ (i 0 : Nat) < win0_8.index _ 0 * 6144 + 6144
      rw [(idx8 _).1]; omega
    | ⟨1, _⟩ =>
      show win0_8.index _ 1 * 16384 ≤ (i 1 : Nat) ∧ (i 1 : Nat) < win0_8.index _ 1 * 16384 + 16384
      rw [(idx8 _).2]; omega

end Cert.ReferenceIdeal.Dx

end
-- ==== Proof.RefFin9.lean ====
module

public import proofs.«01_k».proof.Proof.RefWhole

/-! Array 5 of the reference after its run. -/

@[expose] public section

set_option maxRecDepth 16384

noncomputable section

namespace Cert.ReferenceIdeal.Dx

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Array 5 the reference leaves. -/
theorem final9 (c : Dev nD) : (dats m 0 c).arrAt 9 cfg0.N = k0_pay3 (V m c main_v56) (V m c main_v57) := by
  refine (dats m 0 c).arrAt_eq_of_cover 9 _ (fun t hf => ?_) fun i => ?_
  · rw [flushed9, out9_eq, blk3, blk4]
    generalize k0_pay3 (V m c main_v56) (V m c main_v57) = G
    funext j
    rw [View.read_apply, cast_eq]
    show G j = G _
    refine congrArg G ?_
    funext a
    refine Fin.ext ?_
    match a with
    | ⟨0, _⟩ => show (j 0).val = win0_9.index t 0 * 2560 + 1 * (j 0).val; rw [(idx9 t).1]; omega
    | ⟨1, _⟩ => show (j 1).val = win0_9.index t 1 * 6144 + 1 * (j 1).val; rw [(idx9 t).2]; omega
  · have h0 : (i 0 : Nat) < 2560 := (i 0).isLt
    have h1 : (i 1 : Nat) < 6144 := (i 1).isLt
    have ht : 0 < cfg0.N := by decide
    refine ⟨⟨0, ht⟩, flush0_9 _, ?_⟩
    show i ∈ ((View.whole main_v58_4).slice (win0_9.rect ⟨0, ht⟩)).set
    rw [View.set_slice_whole, Rect.mem_set_unit]
    intro a
    match a with
    | ⟨0, _⟩ =>
      show win0_9.index _ 0 * 2560 ≤ (i 0 : Nat) ∧ (i 0 : Nat) < win0_9.index _ 0 * 2560 + 2560
      rw [(idx9 _).1]; omega
    | ⟨1, _⟩ =>
      show win0_9.index _ 1 * 6144 ≤ (i 1 : Nat) ∧ (i 1 : Nat) < win0_9.index _ 1 * 6144 + 6144
      rw [(idx9 _).2]; omega

end Cert.ReferenceIdeal.Dx

end
-- ==== Proof.DxHost.lean ====
module

public import proofs.«01_k».proof.Proof.DxSame
public import proofs.«01_k».proof.Proof.RefW
public import proofs.«01_k».proof.Proof.Gen.KernelIdeal.Frame
public import proofs.«01_k».proof.Proof.Gen.ReferenceIdeal.Frame
public import proofs.«01_k».proof.Proof.DxFin
public import proofs.«01_k».proof.Defs
public import Idealize.ShloMosaic.Lib.Claim

/-! The arrays the two calls read, from equal arguments, are equal. -/

@[expose] public section

set_option maxRecDepth 16384

noncomputable section

namespace Cert.DxHost

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem kgrads (c : Dev Cert.KernelIdeal.nD) : Cert.KernelIdeal.Gen.V m c Cert.KernelIdeal.main_v1
    = shapeCast Cert.KernelIdeal.S6144x16384 (m ((c.tc : Thread Cert.KernelIdeal.nD Cert.KernelIdeal.τ).loc Cert.KernelIdeal.main_arg4)) Cert.KernelIdeal.Gen.shapeCasts_S2x3072x16384_S6144x16384 := by
  open Cert.KernelIdeal in entry_read
  rfl

theorem rgrads (c : Dev Cert.ReferenceIdeal.nD) : Cert.ReferenceIdeal.Gen.V m' c Cert.ReferenceIdeal.main_v54
    = shapeCast Cert.ReferenceIdeal.S6144x16384 (m' ((c.tc : Thread Cert.ReferenceIdeal.nD Cert.ReferenceIdeal.τ).loc Cert.ReferenceIdeal.main_arg4)) Cert.ReferenceIdeal.Gen.shapeCasts_S2x3072x16384_S6144x16384 := by
  open Cert.ReferenceIdeal in entry_read
  rfl

/-- The upstream gradients, one row per token. -/
theorem grads (c : Dev Cert.KernelIdeal.nD) (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.V m c Cert.KernelIdeal.main_v1 = Cert.ReferenceIdeal.Gen.V m' c Cert.ReferenceIdeal.main_v54 := by
  rw [kgrads, rgrads, h]

theorem kcodes (c : Dev Cert.KernelIdeal.nD) : Cert.KernelIdeal.Gen.V m c Cert.KernelIdeal.main_v2
    = shapeCast Cert.KernelIdeal.S6144x2560 (m ((c.tc : Thread Cert.KernelIdeal.nD Cert.KernelIdeal.τ).loc Cert.KernelIdeal.main_arg0)) Cert.KernelIdeal.Gen.shapeCasts_S2x3072x2560_S6144x2560 := by
  open Cert.KernelIdeal in entry_read
  rfl

theorem rcodes (c : Dev Cert.ReferenceIdeal.nD) : Cert.ReferenceIdeal.Gen.V m' c Cert.ReferenceIdeal.main_v56
    = shapeCast Cert.ReferenceIdeal.S6144x2560 (m' ((c.tc : Thread Cert.ReferenceIdeal.nD Cert.ReferenceIdeal.τ).loc Cert.ReferenceIdeal.main_arg0)) Cert.ReferenceIdeal.Gen.shapeCasts_S2x3072x2560_S6144x2560 := by
  open Cert.ReferenceIdeal in entry_read
  rfl

/-- The activations' codes, one row per token. -/
theorem codes (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Gen.V m c Cert.KernelIdeal.main_v2 = Cert.ReferenceIdeal.Gen.V m' c Cert.ReferenceIdeal.main_v56 := by
  rw [kcodes, rcodes, h]

theorem kscales (c : Dev Cert.KernelIdeal.nD) : Cert.KernelIdeal.Gen.V m c Cert.KernelIdeal.main_v3
    = shapeCast Cert.KernelIdeal.S6144x1 (m ((c.tc : Thread Cert.KernelIdeal.nD Cert.KernelIdeal.τ).loc Cert.KernelIdeal.main_arg1)) Cert.KernelIdeal.Gen.shapeCasts_S2x3072_S6144x1 := by
  open Cert.KernelIdeal in entry_read
  rfl

theorem rscales (c : Dev Cert.ReferenceIdeal.nD) : Cert.ReferenceIdeal.Gen.V m' c Cert.ReferenceIdeal.main_v57
    = shapeCast Cert.ReferenceIdeal.S6144x1 (m' ((c.tc : Thread Cert.ReferenceIdeal.nD Cert.ReferenceIdeal.τ).loc Cert.ReferenceIdeal.main_arg1)) Cert.ReferenceIdeal.Gen.shapeCasts_S2x3072_S6144x1 := by
  open Cert.ReferenceIdeal in entry_read
  rfl

/-- The activations' scales, one row per token. -/
theorem scales (c : Dev Cert.KernelIdeal.nD) (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.V m c Cert.KernelIdeal.main_v3 = Cert.ReferenceIdeal.Gen.V m' c Cert.ReferenceIdeal.main_v57 := by
  rw [kscales, rscales, h]

theorem kgamma (c : Dev Cert.KernelIdeal.nD) : Cert.KernelIdeal.Gen.V m c Cert.KernelIdeal.main_v0
    = shapeCast Cert.KernelIdeal.S1 (m ((c.tc : Thread Cert.KernelIdeal.nD Cert.KernelIdeal.τ).loc Cert.KernelIdeal.main_arg3)) Cert.KernelIdeal.Gen.shapeCasts_S_S1 := by
  open Cert.KernelIdeal in entry_read
  rfl

theorem rgamma (c : Dev Cert.ReferenceIdeal.nD) : Cert.ReferenceIdeal.Gen.V m' c Cert.ReferenceIdeal.main_v53
    = shapeCast Cert.ReferenceIdeal.S1x1 (m' ((c.tc : Thread Cert.ReferenceIdeal.nD Cert.ReferenceIdeal.τ).loc Cert.ReferenceIdeal.main_arg3)) Cert.ReferenceIdeal.Gen.shapeCasts_S_S1x1 := by
  open Cert.ReferenceIdeal in entry_read
  rfl

/-- The weights' scale. -/
theorem gamma (c : Dev Cert.KernelIdeal.nD) (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Gen.V m c Cert.KernelIdeal.main_v0 (Shape.Idx.first (s := Cert.KernelIdeal.S1) (by decide)) = Cert.ReferenceIdeal.Gen.V m' c Cert.ReferenceIdeal.main_v53 (ix2 0 0) := by
  rw [kgamma, rgamma, h]
  exact congrArg (m ((c.tc : Thread Cert.KernelIdeal.nD Cert.KernelIdeal.τ).loc Cert.KernelIdeal.main_arg3)) (funext fun k => k.elim0)

/-- The unpacked weights. -/
theorem weights (c : Dev Cert.KernelIdeal.nD) (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (q : Fin 2560) (l : Fin 16384) :
    Cert.KernelIdeal.Dx.wt (Cert.KernelIdeal.Gen.V m c Cert.KernelIdeal.main_arg2) q l = Cert.ReferenceIdeal.Gen.V m' c Cert.ReferenceIdeal.main_v55 (ix2 q l) := by
  rw [Cert.ReferenceIdeal.Dx.weights m' c (ix2 q l), h, Cert.KernelIdeal.Gen.V_main_arg2]
  rfl

/-- The precondition bounds the rows the kernel reads. -/
theorem bounded (c : Dev Cert.KernelIdeal.nD)
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Cert.ReferenceIdeal.Dx.Bounded (Cert.KernelIdeal.Gen.V m c Cert.KernelIdeal.main_v1) := by
  rw [kgrads]
  exact fun i => Cert.KernelIdeal.Dx.pre_at _ _ _ _ (m ((c.tc : Thread Cert.KernelIdeal.nD Cert.KernelIdeal.τ).loc Cert.KernelIdeal.main_arg4)) h _

end Cert.DxHost

end
-- ==== Proof.DxAlg.lean ====
module

public import proofs.«01_k».proof.Proof.DxSame
public import proofs.«01_k».proof.Proof.DxBlocks
public import proofs.«01_k».proof.Proof.DxFin5
public import proofs.«01_k».proof.Proof.DxFin6
public import proofs.«01_k».proof.Proof.DxFin7
public import proofs.«01_k».proof.Proof.DxFin8
public import proofs.«01_k».proof.Proof.DxFin9
public import proofs.«01_k».proof.Proof.RefW
public import proofs.«01_k».proof.Proof.RefFin5
public import proofs.«01_k».proof.Proof.RefFin6
public import proofs.«01_k».proof.Proof.RefFin7
public import proofs.«01_k».proof.Proof.RefFin8
public import proofs.«01_k».proof.Proof.RefFin9
public import proofs.«01_k».proof.Proof.DxHost
public import proofs.«01_k».proof.Defs

/-! The kernel's first call computes what the reference computes, on finite upstream gradients. -/

@[expose] public section

set_option maxRecDepth 16384

noncomputable section

namespace Cert.Dx

open Idealize.ShloMosaic Idealize.ShloMosaic.TcCoe Idealize.SL.Sem

/-- The kernel's and the reference's results agree, both runs leaving the arguments as launched. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, _, _, _, _, Cert.KernelIdeal.Dx.run_blocks m g, ?_⟩
  refine (θ_run _ _ _).mono (fun r h c => ?_) (Cert.ReferenceIdeal.Dx.run_blocks m' g')
  obtain ⟨h5, h6, h7, h8, h9, hrest⟩ := h c
  obtain ⟨a0, a1, a2, a3, a4⟩ := hargs c
  have e1 := DxHost.grads m m' c a4
  have e2 := DxHost.codes m m' c a0
  have e3 := DxHost.scales m m' c a1
  have e0 := DxHost.gamma m m' c a3
  have hX : Cert.ReferenceIdeal.Dx.Bounded (Cert.KernelIdeal.Gen.V m c Cert.KernelIdeal.main_v1) := DxHost.bounded m c (hpre c)
  refine ⟨h5.trans ?_, h6.trans ?_, h7.trans ?_, h8.trans ?_, h9.trans ?_, hrest⟩
  · rw [Cert.ReferenceIdeal.Dx.final5, Cert.KernelIdeal.Dx.final5, ← e1, ← e2]
    exact (Cert.ReferenceIdeal.Dx.same5 hX _ _ _ (DxHost.weights m m' c a2) _ _ e0).symm
  · rw [Cert.ReferenceIdeal.Dx.final6, Cert.KernelIdeal.Dx.final6, ← e1]
    exact (Cert.ReferenceIdeal.Dx.same6 hX).symm
  · rw [Cert.ReferenceIdeal.Dx.final7, Cert.KernelIdeal.Dx.final7, ← e1]
    exact (Cert.ReferenceIdeal.Dx.same7 hX).symm
  · rw [Cert.ReferenceIdeal.Dx.final8, Cert.KernelIdeal.Dx.final8, ← e1]
    exact (Cert.ReferenceIdeal.Dx.same8 hX).symm
  · rw [Cert.ReferenceIdeal.Dx.final9, Cert.KernelIdeal.Dx.final9, ← e2, ← e3]
    exact (Cert.ReferenceIdeal.Dx.same9 _ _).symm

end Cert.Dx

end
-- ==== Proof.lean ====
module

public import proofs.«01_k».proof.Proof.Gen.Pre_finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.ReferenceDwIdeal
public import proofs.«01_k».proof.Proof.Gen.KernelDwIdeal.Value
public import proofs.«01_k».proof.Proof.Gen.ReferenceDwIdeal.Run
public import proofs.«01_k».proof.Proof.Gen.ReferenceDwIdeal.Read
public import proofs.«01_k».proof.Proof.KxFrame
public import proofs.«01_k».proof.Proof.DxFrame
public import proofs.«01_k».proof.Proof.Dw
public import proofs.«01_k».proof.Proof.DxAlg
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.KernelDw.Gen.facts,
    Cert.KernelDwIdeal.Gen.facts, Cert.ReferenceDwIdeal.Gen.facts, Cert.Pre_finite.Gen.facts,
    fun m ρ _ => Cert.Kernel.Dx.frame m ρ,
    fun m ρ _ => Cert.KernelIdeal.Dx.frame m ρ,
    fun m ρ _ => Cert.KernelIdeal.Dx.frame m ρ,
    fun m ρ _ => Cert.ReferenceIdeal.Gen.frame m ρ,
    fun m ρ _ => Cert.ReferenceIdeal.Gen.frame m ρ,
    fun m ρ _ => Cert.KernelDw.Gen.frame m ρ,
    fun m ρ _ => Cert.KernelDwIdeal.Gen.frame m ρ,
    fun m ρ _ => (θ_run _ _ _).mono (fun r h => ⟨fun c => (h c).2, sem_eq_zero_of_no_sems rfl _⟩) (Cert.ReferenceDwIdeal.Value.run m ρ),
    trivial, Cert.Dx.algebraic, trivial, Cert.KernelDwIdeal.Dw.algebraic⟩

end Cert.Proof

end
